-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "inv_n" .f32 0x39CCCCCD#32 ((1 / 2560 : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ quiescent_Reference (hReference := hReference)
    ∧ preserves_Kernel_KernelIdeal
    ∧ preserves_Reference_ReferenceIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S8x3072x5120 : Shape := ⟨3, ![8, 3072, 5120]⟩
abbrev S8x3072x1 : Shape := ⟨3, ![8, 3072, 1]⟩
abbrev S5120x2560 : Shape := ⟨2, ![5120, 2560]⟩
abbrev S2560 : Shape := ⟨1, ![2560]⟩
abbrev S8x3072x2560 : Shape := ⟨3, ![8, 3072, 2560]⟩
abbrev S_ : Shape := ⟨0, ![]⟩

class Facts : Prop where
  bitsLt_bf16_f32 : FTy.bits .bf16 < FTy.bits .f32
  bcast_S_S2560 : S_.BroadcastsInDim S2560 (![] : Fin 0 → Fin S2560.rank)

variable [Facts]

def fn {F : FTy → Type} [FloatOps F] (main_arg0 : FVec F S8x3072x5120 .fp8e4m3) (main_arg1 : FVec F S8x3072x1 .f32) (main_arg2 : FVec F S5120x2560 .fp8e4m3) (main_arg3 : FVec F S2560 .f32) (main_arg4 : FVec F S8x3072x2560 .bf16) (main_arg5 : FVec F S2560 .bf16) : IVec S2560 1 :=
  let main_v0 : FVec F S2560 .f32 := (extf .f32 · bitsLt_bf16_f32) main_arg5
  let main_v1 : FVec F S2560 .f32 := Host.absf main_v0
  let main_cst : FVec F S_ .f32 := constant S_ .f32 0x7F7F0000#32
  let main_v2 : FVec F S2560 .f32 := broadcastInDim S2560 ![] bcast_S_S2560 main_cst
  let main_v3 : IVec S2560 1 := cmpf .ole main_v1 main_v2
  main_v3
-- ==== Kernel.lean ====
abbrev S8x3072x5120 : Shape := ⟨3, ![8, 3072, 5120]⟩
abbrev S8x3072x1 : Shape := ⟨3, ![8, 3072, 1]⟩
abbrev S5120x2560 : Shape := ⟨2, ![5120, 2560]⟩
abbrev S2560 : Shape := ⟨1, ![2560]⟩
abbrev S8x3072x2560 : Shape := ⟨3, ![8, 3072, 2560]⟩
abbrev S48x1x512 : Shape := ⟨3, ![48, 1, 512]⟩
abbrev S24576x5120 : Shape := ⟨2, ![24576, 5120]⟩
abbrev S1x2560 : Shape := ⟨2, ![1, 2560]⟩
abbrev S24576x2560 : Shape := ⟨2, ![24576, 2560]⟩
abbrev S1x1x512 : Shape := ⟨3, ![1, 1, 512]⟩
abbrev S512x5120 : Shape := ⟨2, ![512, 5120]⟩
abbrev S512x2560 : Shape := ⟨2, ![512, 2560]⟩
abbrev S1x512 : Shape := ⟨2, ![1, 512]⟩
abbrev S128x512 : Shape := ⟨2, ![128, 512]⟩
abbrev S512x128 : Shape := ⟨2, ![512, 128]⟩
abbrev S5120x256 : Shape := ⟨2, ![5120, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S1x128 : Shape := ⟨2, ![1, 128]⟩

abbrev nBuf : Space → Nat
  | .hbm => 18
  | .vmem => 15
  | .smem => 0
  | _ => 0

abbrev bufTy : (tb : Table) → Fin (tcTables nBuf tb) → BufTy
  | .hbm, ⟨0, _⟩ => ⟨S8x3072x5120, .fp8e4m3⟩
  | .hbm, ⟨1, _⟩ => ⟨S8x3072x1, .f32⟩
  | .hbm, ⟨2, _⟩ => ⟨S5120x2560, .fp8e4m3⟩
  | .hbm, ⟨3, _⟩ => ⟨S2560, .f32⟩
  | .hbm, ⟨4, _⟩ => ⟨S8x3072x2560, .bf16⟩
  | .hbm, ⟨5, _⟩ => ⟨S2560, .bf16⟩
  | .hbm, ⟨6, _⟩ => ⟨S48x1x512, .f32⟩
  | .hbm, ⟨7, _⟩ => ⟨S24576x5120, .fp8e4m3⟩
  | .hbm, ⟨8, _⟩ => ⟨S1x2560, .f32⟩
  | .hbm, ⟨9, _⟩ => ⟨S24576x2560, .bf16⟩
  | .hbm, ⟨10, _⟩ => ⟨S2560, .f32⟩
  | .hbm, ⟨11, _⟩ => ⟨S1x2560, .f32⟩
  | .hbm, ⟨12, _⟩ => ⟨S24576x2560, .bf16⟩
  | .hbm, ⟨13, _⟩ => ⟨S24576x2560, .fp8e4m3⟩
  | .hbm, ⟨14, _⟩ => ⟨S48x1x512, .f32⟩
  | .hbm, ⟨15, _⟩ => ⟨S8x3072x2560, .bf16⟩
  | .hbm, ⟨16, _⟩ => ⟨S8x3072x2560, .fp8e4m3⟩
  | .hbm, ⟨17, _⟩ => ⟨S8x3072x1, .f32⟩
  | .local _ .vmem, ⟨0, _⟩ => ⟨S1x1x512, .f32⟩
  | .local _ .vmem, ⟨1, _⟩ => ⟨S1x1x512, .f32⟩
  | .local _ .vmem, ⟨2, _⟩ => ⟨S512x5120, .fp8e4m3⟩
  | .local _ .vmem, ⟨3, _⟩ => ⟨S512x5120, .fp8e4m3⟩
  | .local _ .vmem, ⟨4, _⟩ => ⟨S5120x2560, .fp8e4m3⟩
  | .local _ .vmem, ⟨5, _⟩ => ⟨S1x2560, .f32⟩
  | .local _ .vmem, ⟨6, _⟩ => ⟨S512x2560, .bf16⟩
  | .local _ .vmem, ⟨7, _⟩ => ⟨S512x2560, .bf16⟩
  | .local _ .vmem, ⟨8, _⟩ => ⟨S1x2560, .f32⟩
  | .local _ .vmem, ⟨9, _⟩ => ⟨S512x2560, .bf16⟩
  | .local _ .vmem, ⟨10, _⟩ => ⟨S512x2560, .bf16⟩
  | .local _ .vmem, ⟨11, _⟩ => ⟨S512x2560, .fp8e4m3⟩
  | .local _ .vmem, ⟨12, _⟩ => ⟨S512x2560, .fp8e4m3⟩
  | .local _ .vmem, ⟨13, _⟩ => ⟨S1x1x512, .f32⟩
  | .local _ .vmem, ⟨14, _⟩ => ⟨S1x1x512, .f32⟩
  | _, _ => ⟨S8x3072x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_n" => some ((1 / 2560 : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S8x3072x5120 : Shape := ⟨3, ![8, 3072, 5120]⟩
abbrev S8x3072x1 : Shape := ⟨3, ![8, 3072, 1]⟩
abbrev S5120x2560 : Shape := ⟨2, ![5120, 2560]⟩
abbrev S2560 : Shape := ⟨1, ![2560]⟩
abbrev S8x3072x2560 : Shape := ⟨3, ![8, 3072, 2560]⟩
abbrev S1x1x2560 : Shape := ⟨3, ![1, 1, 2560]⟩
abbrev S8x3072 : Shape := ⟨2, ![8, 3072]⟩

abbrev nBuf : Space → Nat
  | .hbm => 9
  | .vmem => 9
  | .smem => 0
  | _ => 0

abbrev bufTy : (tb : Table) → Fin (tcTables nBuf tb) → BufTy
  | .hbm, ⟨0, _⟩ => ⟨S8x3072x5120, .fp8e4m3⟩
  | .hbm, ⟨1, _⟩ => ⟨S8x3072x1, .f32⟩
  | .hbm, ⟨2, _⟩ => ⟨S5120x2560, .fp8e4m3⟩
  | .hbm, ⟨3, _⟩ => ⟨S2560, .f32⟩
  | .hbm, ⟨4, _⟩ => ⟨S8x3072x2560, .bf16⟩
  | .hbm, ⟨5, _⟩ => ⟨S2560, .bf16⟩
  | .hbm, ⟨6, _⟩ => ⟨S8x3072x2560, .bf16⟩
  | .hbm, ⟨7, _⟩ => ⟨S8x3072x2560, .fp8e4m3⟩
  | .hbm, ⟨8, _⟩ => ⟨S8x3072x1, .f32⟩
  | .local _ .vmem, ⟨0, _⟩ => ⟨S8x3072x5120, .fp8e4m3⟩
  | .local _ .vmem, ⟨1, _⟩ => ⟨S8x3072x1, .f32⟩
  | .local _ .vmem, ⟨2, _⟩ => ⟨S5120x2560, .fp8e4m3⟩
  | .local _ .vmem, ⟨3, _⟩ => ⟨S2560, .f32⟩
  | .local _ .vmem, ⟨4, _⟩ => ⟨S8x3072x2560, .bf16⟩
  | .local _ .vmem, ⟨5, _⟩ => ⟨S2560, .bf16⟩
  | .local _ .vmem, ⟨6, _⟩ => ⟨S8x3072x2560, .bf16⟩
  | .local _ .vmem, ⟨7, _⟩ => ⟨S8x3072x2560, .fp8e4m3⟩
  | .local _ .vmem, ⟨8, _⟩ => ⟨S8x3072x1, .f32⟩
  | _, _ => ⟨S8x3072x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x3072x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x3072x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x3072x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x3072x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x3072x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Row.lean ====
module
public import Idealize.ShloMosaic.PureOps
public import Idealize.ShloMosaic.PureOps.Ideal

/-! What one row of the problem computes, over the extended reals: the projection with its scales and
    residual, the root mean square normalisation, the power of two scale and the code words. -/

@[expose] public section
noncomputable section
namespace Cert.Proj
open Idealize.ShloMosaic

/-- The residual stream of one row: the residual plus the scaled product of the row with each column. -/
def hRow (x : Fin 5120 → EReal) (w : Fin 5120 → Fin 2560 → EReal) (xs : EReal) (ws res : Fin 2560 → EReal) (c : Fin 2560) : EReal :=
  res c + (∑ k, x k * w k c) * xs * ws c

/-- The mean of the squares of a row, plus the small constant. -/
def msRow (h : Fin 2560 → EReal) : EReal :=
  Ideal.div (∑ c, h c * h c) (Ideal.ofBits .f32 0x45200000#32) + Ideal.ofBits .f32 0x3727C5AC#32

/-- The normalised row, times gamma. -/
def nRow (h g : Fin 2560 → EReal) (c : Fin 2560) : EReal := h c * Ideal.rsqrt (msRow h) * g c

/-- The largest magnitude of the normalised row over 448 (the binary32 number next to 1/448). -/
def qRow (h g : Fin 2560 → EReal) : EReal :=
  Finset.univ.fold max (Ideal.ofBits .f32 0xFF800000#32) (fun c => max (nRow h g c) (-nRow h g c)) * Ideal.ofBits .f32 0x3B124925#32

/-- The exponent of the scale: 0 below the smallest normal number, else one more than the floor of the
    base two logarithm. -/
def expOf (q : EReal) : EReal :=
  Scalar.select (Ideal.cmp .olt q (Ideal.ofBits .f32 0x00800000#32)) (Ideal.ofBits .f32 0x00000000#32)
    (Ideal.liftRound Int.floor (Ideal.div (Ideal.log q) ((Real.log 2 : ℝ) : EReal)) + Ideal.ofBits .f32 0x3F800000#32)

/-- Two to the minus exponent. -/
def invScale (q : EReal) : EReal := Ideal.exp2 (Ideal.ofBits .f32 0x00000000#32 - expOf q)

/-- The scale: two to the exponent. -/
def scaleRow (h g : Fin 2560 → EReal) : EReal := Ideal.exp2 (expOf (qRow h g))

/-- The code words: the normalised row over the scale, clipped to ±448. -/
def codeRow (h g : Fin 2560 → EReal) (c : Fin 2560) : EReal :=
  min (Ideal.ofBits .f32 0x43E00000#32) (max (Ideal.ofBits .f32 0xC3E00000#32) (nRow h g c * invScale (qRow h g)))

/-! The kernel's own form of the exponent: a binary search for the exponent field. -/

/-- One step of the search: keep the bit when the power with it is at most `q`. -/
def stepF (q : EReal) (b f : BitVec 32) : BitVec 32 :=
  Scalar.select (Ideal.cmp .oge q (Ideal.ofBits .f32 (IntOp.shli .vector (IntOp.addi f b) 23#32))) (IntOp.addi f b) f

/-- The exponent field found by eight steps. -/
def fieldOf (q : EReal) : BitVec 32 :=
  stepF q 1#32 (stepF q 2#32 (stepF q 4#32 (stepF q 8#32 (stepF q 16#32 (stepF q 32#32 (stepF q 64#32 (stepF q 128#32 0#32)))))))

/-- The exponent from the field. -/
def expBits (f : BitVec 32) : BitVec 32 :=
  Scalar.select (IntOp.ori (IntOp.cmpi .eq f 0#32) (IntOp.cmpi .eq f 255#32)) 0#32 (IntOp.subi f 126#32)

/-- The kernel's power of two for the minus exponent. -/
def kInv (q : EReal) : EReal :=
  Ideal.ofBits .f32 (IntOp.shli .vector (IntOp.addi (IntOp.subi 0#32 (expBits (fieldOf q))) 127#32) 23#32)

/-- The kernel's power of two for the exponent. -/
def kScale (q : EReal) : EReal :=
  Ideal.ofBits .f32 (IntOp.shli .vector (IntOp.addi (expBits (fieldOf q)) 127#32) 23#32)

end Cert.Proj
end
-- ==== Proof.Exponent.lean ====
module
public import proofs.«01_k».proof.Proof.Row

/-! The binary search over exponent fields finds the same power of two as the floor of the logarithm. -/

@[expose] public section
noncomputable section
namespace Cert.Proj
open Idealize.ShloMosaic

/-- The number whose exponent field is `n` and whose fraction is zero. -/
def powN (n : ℕ) : EReal := Ideal.ofBits .f32 (BitVec.ofNat 32 n <<< 23)

/-- The exponent field of such a word. -/
theorem field_ex : ∀ n : Fin 256, ((BitVec.ofNat 32 n.val <<< 23).extractLsb' 23 8).toNat = n.val := by decide +kernel
/-- Its fraction is zero. -/
theorem field_fr : ∀ n : Fin 256, ((BitVec.ofNat 32 n.val <<< 23).extractLsb' 0 23).toNat = 0 := by decide +kernel
/-- Its sign is plus. -/
theorem field_sg : ∀ n : Fin 256, ((BitVec.ofNat 32 n.val <<< 23).extractLsb' (8 + 23) 1 == 1#1) = false := by decide +kernel

/-- A normal field is the power of two. -/
theorem powN_eq (n : ℕ) (h1 : 1 ≤ n) (h2 : n ≤ 254) : powN n = (((2 : ℝ) ^ ((n : ℤ) - 127) : ℝ) : EReal) := by
  have hx := field_ex ⟨n, by omega⟩
  have hf := field_fr ⟨n, by omega⟩
  have hs := field_sg ⟨n, by omega⟩
  dsimp only at hx hf hs
  show Ideal.ieee 8 23 (BitVec.ofNat 32 n <<< 23) = _
  generalize BitVec.ofNat 32 n <<< 23 = w at hx hf hs ⊢
  unfold Ideal.ieee
  simp only [hx, hf, hs]
  have a1 : ¬ n = 2 ^ 8 - 1 := by norm_num; omega
  have a2 : ¬ n = 0 := by omega
  rw [if_neg a1, if_neg a2, EReal.coe_eq_coe_iff]
  have e : ((2 ^ 23 + 0 : ℕ) : ℝ) = (2:ℝ)^(23:ℤ) := by norm_num
  have e2 : (n : ℤ) - 127 = 23 + ((n : ℤ) - (2 ^ (8 - 1) - 1) - (23 : ℕ)) := by norm_num
  rw [e2, zpow_add₀ (by norm_num : (2:ℝ) ≠ 0)]
  norm_num

/-- The zero field is zero. -/
theorem powN_zero : powN 0 = 0 := by
  have hx := field_ex ⟨0, by omega⟩
  have hf := field_fr ⟨0, by omega⟩
  have hs := field_sg ⟨0, by omega⟩
  dsimp only at hx hf hs
  unfold powN Ideal.ofBits Ideal.ieee
  dsimp only
  rw [hx, hf, hs]
  simp

/-- The last field is infinity. -/
theorem powN_top : powN 255 = ⊤ := by
  have hx := field_ex ⟨255, by omega⟩
  have hf := field_fr ⟨255, by omega⟩
  have hs := field_sg ⟨255, by omega⟩
  dsimp only at hx hf hs
  unfold powN Ideal.ofBits Ideal.ieee
  dsimp only
  rw [hx, hf, hs]
  simp

/-- The smallest normal number is the power with field one. -/
theorem minNormal : Ideal.ofBits .f32 0x00800000#32 = (((2 : ℝ) ^ (-126 : ℤ) : ℝ) : EReal) := powN_eq 1 le_rfl (by norm_num)
/-- The word of one. -/
theorem oneBits : Ideal.ofBits .f32 0x3F800000#32 = ((1 : ℝ) : EReal) := by
  have h := powN_eq 127 (by norm_num) (by norm_num)
  norm_num at h
  exact h
/-- The word of zero. -/
theorem zeroBits : Ideal.ofBits .f32 0x00000000#32 = 0 := powN_zero

/-- The exponent field of a real number. -/
def fieldR (r : ℝ) : ℕ := if r < (2 : ℝ) ^ (-126 : ℤ) then 0 else (⌊Real.log r / Real.log 2⌋ + 127).toNat

/-- The floor of the base two logarithm is at least `n` exactly when the number is at least the power. -/
theorem le_floor_iff (r : ℝ) (hr : 0 < r) (n : ℤ) : n ≤ ⌊Real.log r / Real.log 2⌋ ↔ (2 : ℝ) ^ n ≤ r := by
  rw [Int.le_floor, le_div_iff₀ (Real.log_pos (by norm_num)), ← Real.log_zpow, Real.log_le_log_iff (by positivity) hr]

/-- At or above the smallest normal number the floor is at least -126. -/
theorem floor_ge (r : ℝ) (h : (2 : ℝ) ^ (-126 : ℤ) ≤ r) : -126 ≤ ⌊Real.log r / Real.log 2⌋ :=
  (le_floor_iff r (lt_of_lt_of_le (by positivity) h) _).mpr h

/-- Below 2^126 the floor is below 126. -/
theorem floor_lt (r : ℝ) (h : (2 : ℝ) ^ (-126 : ℤ) ≤ r) (h2 : r < (2 : ℝ) ^ (126 : ℤ)) : ⌊Real.log r / Real.log 2⌋ < 126 := by
  have := (le_floor_iff r (lt_of_lt_of_le (by positivity) h) 126).not.mpr (not_le.mpr h2)
  omega

/-- A field's power is at most the number exactly when the field is at most the number's. -/
theorem powN_le (r : ℝ) (h0 : 0 ≤ r) (h2 : r < (2 : ℝ) ^ (126 : ℤ)) (n : ℕ) (hn : n ≤ 255) :
    powN n ≤ (r : EReal) ↔ n ≤ fieldR r := by
  rcases Nat.eq_zero_or_pos n with rfl | hp
  · rw [powN_zero]; simp [h0]
  unfold fieldR
  rcases Nat.lt_or_ge 254 n with ht | ht
  · obtain rfl : n = 255 := by omega
    rw [powN_top]
    split_ifs with hs
    · simp
    · have := floor_lt r (not_lt.mp hs) h2
      simp only [top_le_iff, EReal.coe_ne_top, false_iff]; omega
  rw [powN_eq n hp ht, EReal.coe_le_coe_iff]
  split_ifs with hs
  · constructor
    · intro hle
      exfalso
      have : (2 : ℝ) ^ (-126 : ℤ) ≤ (2 : ℝ) ^ ((n : ℤ) - 127) := zpow_le_zpow_right₀ (by norm_num) (by omega)
      linarith
    · omega
  · have hr : 0 < r := lt_of_lt_of_le (by positivity) (not_lt.mp hs)
    have hg := floor_ge r (not_lt.mp hs)
    rw [← le_floor_iff r hr]
    omega

/-- The field is at most 252. -/
theorem fieldR_le (r : ℝ) (h2 : r < (2 : ℝ) ^ (126 : ℤ)) : fieldR r ≤ 252 := by
  unfold fieldR
  split_ifs with hs
  · omega
  · have := floor_lt r (not_lt.mp hs) h2
    omega

/-- One step halves the interval that holds the field. -/
theorem stepF_spec (r : ℝ) (h0 : 0 ≤ r) (h2 : r < (2 : ℝ) ^ (126 : ℤ)) (b n : ℕ)
    (h : n ≤ fieldR r ∧ fieldR r < n + 2 * b ∧ n + 2 * b ≤ 256) (hb : 0 < b) :
    ∃ n', stepF r (BitVec.ofNat 32 b) (BitVec.ofNat 32 n) = BitVec.ofNat 32 n' ∧ n' ≤ fieldR r ∧ fieldR r < n' + b ∧ n' + b ≤ 256 := by
  have key := powN_le r h0 h2 (n + b) (by omega)
  have e : stepF r (BitVec.ofNat 32 b) (BitVec.ofNat 32 n) = if powN (n + b) ≤ (r : EReal) then BitVec.ofNat 32 (n + b) else BitVec.ofNat 32 n := by
    have ea : IntOp.addi (BitVec.ofNat 32 n) (BitVec.ofNat 32 b) = BitVec.ofNat 32 (n + b) := by
      show BitVec.ofNat 32 n + BitVec.ofNat 32 b = _
      rw [BitVec.ofNat_add]
    have es : IntOp.shli .vector (BitVec.ofNat 32 (n + b)) 23#32 = BitVec.ofNat 32 (n + b) <<< 23 := rfl
    unfold stepF
    rw [ea, es]
    unfold Scalar.select Ideal.cmp
    show (if BitVec.ofBool (decide (powN (n + b) ≤ (r : EReal))) = 1 then _ else _) = _
    by_cases hc : powN (n + b) ≤ (r : EReal) <;> simp [hc]
  by_cases hc : powN (n + b) ≤ (r : EReal)
  · exact ⟨n + b, by rw [e, if_pos hc], key.mp hc, by omega, by omega⟩
  · exact ⟨n, by rw [e, if_neg hc], h.1, by have := mt key.mpr hc; omega, by omega⟩

/-- The eight steps find the field. -/
theorem fieldOf_eq (r : ℝ) (h0 : 0 ≤ r) (h2 : r < (2 : ℝ) ^ (126 : ℤ)) : fieldOf r = BitVec.ofNat 32 (fieldR r) := by
  have hK := fieldR_le r h2
  obtain ⟨n1, e1, a1⟩ := stepF_spec r h0 h2 128 0 ⟨by omega, by omega, by omega⟩ (by omega)
  obtain ⟨n2, e2, a2⟩ := stepF_spec r h0 h2 64 n1 ⟨by omega, by omega, by omega⟩ (by omega)
  obtain ⟨n3, e3, a3⟩ := stepF_spec r h0 h2 32 n2 ⟨by omega, by omega, by omega⟩ (by omega)
  obtain ⟨n4, e4, a4⟩ := stepF_spec r h0 h2 16 n3 ⟨by omega, by omega, by omega⟩ (by omega)
  obtain ⟨n5, e5, a5⟩ := stepF_spec r h0 h2 8 n4 ⟨by omega, by omega, by omega⟩ (by omega)
  obtain ⟨n6, e6, a6⟩ := stepF_spec r h0 h2 4 n5 ⟨by omega, by omega, by omega⟩ (by omega)
  obtain ⟨n7, e7, a7⟩ := stepF_spec r h0 h2 2 n6 ⟨by omega, by omega, by omega⟩ (by omega)
  obtain ⟨n8, e8, a8⟩ := stepF_spec r h0 h2 1 n7 ⟨by omega, by omega, by omega⟩ (by omega)
  unfold fieldOf
  rw [e1, e2, e3, e4, e5, e6, e7, e8]
  congr 1
  omega

/-- The word of the minus exponent, from the field. -/
theorem inv_word : ∀ K : Fin 253, IntOp.shli .vector (IntOp.addi (IntOp.subi 0#32 (expBits (BitVec.ofNat 32 K.val))) 127#32) 23#32
    = BitVec.ofNat 32 (if K.val = 0 then 127 else 253 - K.val) <<< 23 := by decide +kernel

/-- The word of the exponent, from the field. -/
theorem scale_word : ∀ K : Fin 253, IntOp.shli .vector (IntOp.addi (expBits (BitVec.ofNat 32 K.val)) 127#32) 23#32
    = BitVec.ofNat 32 (if K.val = 0 then 127 else K.val + 1) <<< 23 := by decide +kernel

/-- The integer exponent of a number. -/
def expR (r : ℝ) : ℤ := if r < (2 : ℝ) ^ (-126 : ℤ) then 0 else ⌊Real.log r / Real.log 2⌋ + 1

/-- The plain exponent is that integer. -/
theorem expOf_eq (r : ℝ) : expOf (r : EReal) = ((expR r : ℝ) : EReal) := by
  unfold expOf
  rw [minNormal, zeroBits, oneBits]
  unfold expR Scalar.select Ideal.cmp
  by_cases hs : r < (2 : ℝ) ^ (-126 : ℤ)
  · have hd : (decide ((r : EReal) < (((2 : ℝ) ^ (-126 : ℤ) : ℝ) : EReal))) = true := by
      rw [decide_eq_true_iff, EReal.coe_lt_coe_iff]; exact hs
    simp only [hd, if_pos hs]
    rw [if_pos (by decide)]
    simp
  · have hr : 0 < r := lt_of_lt_of_le (by positivity) (not_lt.mp hs)
    have hl : Ideal.log (r : EReal) = ((Real.log r : ℝ) : EReal) := by
      show (if r ≤ 0 then (⊥ : EReal) else ((Real.log r : ℝ) : EReal)) = _
      rw [if_neg (not_le.mpr hr)]
    have hl2 : Real.log 2 ≠ 0 := (Real.log_pos (by norm_num)).ne'
    rw [hl, Ideal.div_coe hl2, ← EReal.coe_mul, Ideal.liftRound_coe]
    have hd : (decide ((r : EReal) < (((2 : ℝ) ^ (-126 : ℤ) : ℝ) : EReal))) = false := by
      rw [decide_eq_false_iff_not, EReal.coe_lt_coe_iff]; exact hs
    simp only [hd, if_neg hs]
    rw [if_neg (by decide), ← EReal.coe_add]
    congr 1
    rw [mul_one_div]
    push_cast
    rfl

/-- The kernel's power for the minus exponent is the plain one. -/
theorem kInv_eq (r : ℝ) (h0 : 0 ≤ r) (h2 : r < (2 : ℝ) ^ (126 : ℤ)) : kInv (r : EReal) = invScale (r : EReal) := by
  have hK := fieldR_le r h2
  have hw := inv_word ⟨fieldR r, by omega⟩
  dsimp only at hw
  unfold kInv invScale
  rw [fieldOf_eq r h0 h2, hw, expOf_eq, zeroBits, zero_sub, ← EReal.coe_neg]
  show powN _ = (((2 : ℝ) ^ (-(expR r : ℝ)) : ℝ) : EReal)
  rw [← Int.cast_neg, Real.rpow_intCast]
  unfold expR fieldR
  unfold fieldR at hK
  by_cases hs : r < (2 : ℝ) ^ (-126 : ℤ)
  · simp only [if_pos hs, if_true]
    rw [powN_eq 127 (by norm_num) (by norm_num)]; norm_num
  · have hg := floor_ge r (not_lt.mp hs)
    have hl := floor_lt r (not_lt.mp hs) h2
    simp only [if_neg hs] at hK ⊢
    rw [if_neg (by omega), powN_eq _ (by omega) (by omega)]
    congr 2
    omega

/-- The kernel's power for the exponent is the plain one. -/
theorem kScale_eq (r : ℝ) (h0 : 0 ≤ r) (h2 : r < (2 : ℝ) ^ (126 : ℤ)) : kScale (r : EReal) = Ideal.exp2 (expOf (r : EReal)) := by
  have hK := fieldR_le r h2
  have hw := scale_word ⟨fieldR r, by omega⟩
  dsimp only at hw
  unfold kScale
  rw [fieldOf_eq r h0 h2, hw, expOf_eq]
  show powN _ = (((2 : ℝ) ^ ((expR r : ℤ) : ℝ) : ℝ) : EReal)
  rw [Real.rpow_intCast]
  unfold expR fieldR
  unfold fieldR at hK
  by_cases hs : r < (2 : ℝ) ^ (-126 : ℤ)
  · simp only [if_pos hs, if_true]
    rw [powN_eq 127 (by norm_num) (by norm_num)]; norm_num
  · have hg := floor_ge r (not_lt.mp hs)
    have hl := floor_lt r (not_lt.mp hs) h2
    simp only [if_neg hs] at hK ⊢
    rw [if_neg (by omega), powN_eq _ (by omega) (by omega)]
    congr 2
    omega

end Cert.Proj
end
-- ==== Proof.Bound.lean ====
module
public import proofs.«01_k».proof.Proof.Exponent

/-! The largest magnitude of a normalised row is a real number below 2^126, so that the two forms of the
    power of two agree on every row. -/

@[expose] public section
noncomputable section
namespace Cert.Proj
open Idealize.ShloMosaic

/-- The word of minus infinity. -/
theorem botBits : Ideal.ofBits .f32 0xFF800000#32 = ⊥ := by
  simp [Ideal.ofBits, Ideal.ieee]
/-- The word of 2560. -/
theorem lenBits : Ideal.ofBits .f32 0x45200000#32 = ((2560 : ℝ) : EReal) := by
  simp [Ideal.ofBits, Ideal.ieee, -EReal.coe_mul] <;> norm_num
/-- The small constant is a positive real. -/
theorem epsBits : ∃ e : ℝ, 0 < e ∧ Ideal.ofBits .f32 0x3727C5AC#32 = (e : EReal) := by
  refine ⟨10995116 * (2 ^ 40)⁻¹, by norm_num, ?_⟩
  simp [Ideal.ofBits, Ideal.ieee, -EReal.coe_mul] <;> norm_num
/-- The word next to 1/448 lies below 2^-8. -/
theorem stepBits : ∃ k : ℝ, 0 < k ∧ k < (2 ^ 8)⁻¹ ∧ Ideal.ofBits .f32 0x3B124925#32 = (k : EReal) := by
  refine ⟨9586981 * (2 ^ 32)⁻¹, by norm_num, by norm_num, ?_⟩
  simp [Ideal.ofBits, Ideal.ieee, -EReal.coe_mul] <;> norm_num
/-- The bound on gamma, the largest finite bfloat16 number, is a real below 2^128. -/
theorem gammaBits : ∃ g : ℝ, g ≤ 2 ^ 128 ∧ Ideal.ofBits .f32 0x7F7F0000#32 = (g : EReal) := by
  refine ⟨255 * 2 ^ 120, by norm_num, ?_⟩
  simp [Ideal.ofBits, Ideal.ieee, -EReal.coe_mul] <;> norm_num

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

/-- A number whose square is finite is real. -/
theorem real_of_sq (x : EReal) (h : x * x ≠ ⊤) : ∃ r : ℝ, x = r := by
  induction x using EReal.rec with
  | bot => simp at h
  | top => simp at h
  | coe r => exact ⟨r, rfl⟩

/-- Every normalised element before gamma is a real number of magnitude at most 64. -/
theorem norm_real (h : Fin 2560 → EReal) (c : Fin 2560) : ∃ u : ℝ, h c * Ideal.rsqrt (msRow h) = (u : EReal) ∧ |u| ≤ 64 := by
  obtain ⟨e, he, hE⟩ := epsBits
  by_cases hall : ∀ c, ∃ r : ℝ, h c = r
  · choose a ha using hall
    have hs : (∑ c, h c * h c) = ((∑ c, a c * a c : ℝ) : EReal) := by
      rw [show ((∑ c, a c * a c : ℝ) : EReal) = ∑ c, ((a c * a c : ℝ) : EReal) from map_sum (⟨⟨Real.toEReal, EReal.coe_zero⟩, EReal.coe_add⟩ : ℝ →+ EReal) _ _]
      exact Finset.sum_congr rfl fun c _ => by rw [ha, EReal.coe_mul]
    have hms : msRow h = (((∑ c, a c * a c) * (1 / 2560) + e : ℝ) : EReal) := by
      unfold msRow
      rw [hs, lenBits, hE, Ideal.div_coe (by norm_num), ← EReal.coe_mul, ← EReal.coe_add]
    have hS : 0 ≤ ∑ c, a c * a c := Finset.sum_nonneg fun c _ => mul_self_nonneg _
    have hc : a c * a c ≤ ∑ c, a c * a c := Finset.single_le_sum (f := fun c => a c * a c) (fun c _ => mul_self_nonneg _) (Finset.mem_univ c)
    rw [hms]
    set m : ℝ := (∑ c, a c * a c) * (1 / 2560) + e with hm
    have hmp : 0 < m := by positivity
    refine ⟨a c * (Real.sqrt m)⁻¹, ?_, ?_⟩
    · have hr : Ideal.rsqrt (m : EReal) = (((Real.sqrt m)⁻¹ : ℝ) : EReal) := by
        show (if m < 0 then (⊥ : EReal) else if m = 0 then ⊤ else (((Real.sqrt m)⁻¹ : ℝ) : EReal)) = _
        rw [if_neg (not_lt.mpr hmp.le), if_neg hmp.ne']
      rw [hr, ha, ← EReal.coe_mul]
    · have hq : 0 < Real.sqrt m := Real.sqrt_pos.mpr hmp
      rw [abs_mul, abs_inv, abs_of_pos hq, ← div_eq_mul_inv, div_le_iff₀ hq]
      apply abs_le_of_sq_le_sq _ (by positivity)
      rw [mul_pow, Real.sq_sqrt hmp.le]
      nlinarith
  · push Not at hall
    obtain ⟨c0, h0⟩ := hall
    have ht : h c0 * h c0 = ⊤ := by
      by_contra hn
      obtain ⟨r, hr⟩ := real_of_sq _ hn
      exact h0 r hr
    have hs : (∑ c, h c * h c) = ⊤ := by
      have := Finset.single_le_sum (f := fun c => h c * h c) (fun c _ => sq_nonneg' _) (Finset.mem_univ c0)
      simpa [ht] using this
    have hms : msRow h = ⊤ := by
      unfold msRow
      rw [hs, lenBits, hE, Ideal.div_coe (by norm_num), EReal.top_mul_of_pos (by exact_mod_cast (by norm_num : (0 : ℝ) < 1 / 2560))]
      exact EReal.top_add_coe e
    refine ⟨0, ?_, by norm_num⟩
    rw [hms]
    show h c * 0 = _
    simp

/-- The largest magnitude over 448 is a real number from 0 to below 2^126. -/
theorem qRow_real (h g : Fin 2560 → EReal) (hg : ∀ c, max (g c) (-g c) ≤ Ideal.ofBits .f32 0x7F7F0000#32) :
    ∃ r : ℝ, qRow h g = (r : EReal) ∧ 0 ≤ r ∧ r < (2 : ℝ) ^ (126 : ℤ) := by
  obtain ⟨G, hG, hGb⟩ := gammaBits
  obtain ⟨k, hk0, hk, hkb⟩ := stepBits
  have hn : ∀ c, ∃ n : ℝ, nRow h g c = (n : EReal) ∧ |n| ≤ 64 * 2 ^ 128 := by
    intro c
    obtain ⟨u, hu, hub⟩ := norm_real h c
    have hgc := hg c
    rw [hGb] at hgc
    have h1 : g c ≤ G := le_trans (le_max_left _ _) hgc
    have h2 : -g c ≤ G := le_trans (le_max_right _ _) hgc
    have h3 : ((-G : ℝ) : EReal) ≤ g c := by rw [EReal.coe_neg]; exact EReal.neg_le.mp h2
    have hnt : g c ≠ ⊤ := ne_top_of_le_ne_top (EReal.coe_ne_top G) h1
    have hnb : g c ≠ ⊥ := ne_bot_of_le_ne_bot (EReal.coe_ne_bot _) h3
    lift g c to ℝ using ⟨hnt, hnb⟩ with γ hγ
    rw [EReal.coe_le_coe_iff] at h1 h3
    refine ⟨u * γ, ?_, ?_⟩
    · unfold nRow; rw [hu, ← hγ, ← EReal.coe_mul]
    · rw [abs_mul]
      exact mul_le_mul hub (abs_le.mpr ⟨by linarith, by linarith⟩) (abs_nonneg _) (by norm_num)
  choose n hn hnb using hn
  have habs : ∀ c, max (nRow h g c) (-nRow h g c) = ((|n c| : ℝ) : EReal) := by
    intro c
    rw [hn, ← EReal.coe_neg, abs_eq_max_neg]
    exact (EReal.coe_strictMono.monotone.map_max).symm
  have hle : Finset.univ.fold max (Ideal.ofBits .f32 0xFF800000#32) (fun c => max (nRow h g c) (-nRow h g c)) ≤ ((64 * 2 ^ 128 : ℝ) : EReal) := by
    rw [Finset.fold_max_le, botBits]
    exact ⟨bot_le, fun c _ => by rw [habs, EReal.coe_le_coe_iff]; exact hnb c⟩
  have hge : (0 : EReal) ≤ Finset.univ.fold max (Ideal.ofBits .f32 0xFF800000#32) (fun c => max (nRow h g c) (-nRow h g c)) := by
    rw [Finset.le_fold_max]
    exact Or.inr ⟨0, Finset.mem_univ _, by rw [habs]; exact EReal.coe_nonneg.mpr (abs_nonneg _)⟩
  unfold qRow
  generalize Finset.univ.fold max (Ideal.ofBits .f32 0xFF800000#32) (fun c => max (nRow h g c) (-nRow h g c)) = M at hle hge
  lift M to ℝ using ⟨ne_top_of_le_ne_top (EReal.coe_ne_top _) hle, ne_bot_of_le_ne_bot EReal.zero_ne_bot hge⟩ with t
  rw [EReal.coe_le_coe_iff] at hle
  have ht := EReal.coe_nonneg.mp hge
  refine ⟨t * k, by rw [hkb, ← EReal.coe_mul], by positivity, ?_⟩
  calc t * k ≤ (64 * 2 ^ 128) * k := mul_le_mul_of_nonneg_right hle hk0.le
    _ < (64 * 2 ^ 128) * (2 ^ 8)⁻¹ := mul_lt_mul_of_pos_left hk (by norm_num)
    _ = (2 : ℝ) ^ (126 : ℤ) := by norm_num

/-- On every row the kernel's power for the minus exponent is the plain one. -/
theorem kInv_qRow (h g : Fin 2560 → EReal) (hg : ∀ c, max (g c) (-g c) ≤ Ideal.ofBits .f32 0x7F7F0000#32) :
    kInv (qRow h g) = invScale (qRow h g) := by
  obtain ⟨r, e, h0, h2⟩ := qRow_real h g hg
  rw [e]; exact kInv_eq r h0 h2

/-- On every row the kernel's power for the exponent is the scale. -/
theorem kScale_qRow (h g : Fin 2560 → EReal) (hg : ∀ c, max (g c) (-g c) ≤ Ideal.ofBits .f32 0x7F7F0000#32) :
    kScale (qRow h g) = scaleRow h g := by
  obtain ⟨r, e, h0, h2⟩ := qRow_real h g hg
  unfold scaleRow
  rw [e]; exact kScale_eq r h0 h2

end Cert.Proj
end
-- ==== Proof.BlockNumbers.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.Row

/-! The numbers one block of 512 rows is made of, by row and column number. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (x5 : Vec Ideal S1x2560 .f32)

/-- The residual stream at row `r` and column number `n` of a block (zero past the last column). -/
def hN (r : Fin 512) (n : ℕ) : EReal :=
  if h : n < 2560 then hRow (fun k => x1 (ix2 r k)) (fun k c => x2 (ix2 k c)) (x0 (ix3 0 0 r)) (fun c => x3 (ix2 0 c)) (fun c => x4 (ix2 r c)) ⟨n, h⟩ else 0

/-- The residual stream of row `r` of a block. -/
def hB (r : Fin 512) : Fin 2560 → EReal :=
  hRow (fun k => x1 (ix2 r k)) (fun k c => x2 (ix2 k c)) (x0 (ix3 0 0 r)) (fun c => x3 (ix2 0 c)) (fun c => x4 (ix2 r c))

/-- Gamma by column. -/
def gB (c : Fin 2560) : EReal := x5 (ix2 0 c)

/-- Below the width, the value by column number is the row's value. -/
theorem hN_eq (r : Fin 512) (n : ℕ) (h : n < 2560) : hN x0 x1 x2 x3 x4 r n = hB x0 x1 x2 x3 x4 r ⟨n, h⟩ := dif_pos h

/-- The square of the residual stream at row `r` and column number `n`. -/
def sqN (r : Fin 512) (n : ℕ) : EReal := hN x0 x1 x2 x3 x4 r n * hN x0 x1 x2 x3 x4 r n

/-- The square by column number, at an equal number. -/
theorem sqN_of (r : Fin 512) (m n : ℕ) (h : m = n) : hN x0 x1 x2 x3 x4 r m * hN x0 x1 x2 x3 x4 r m = sqN x0 x1 x2 x3 x4 r n := by
  subst h; rfl

/-- The element the tiles compute, at a column of the block, is the residual stream there. -/
theorem hN_of (r : Fin 512) (n : ℕ) (h : n < 2560) :
    x4 (ix2 r ⟨n, h⟩) + (∑ k, x1 (ix2 r k) * x2 (ix2 k ⟨n, h⟩)) * x0 (ix3 0 0 r) * x3 (ix2 0 ⟨n, h⟩) = hN x0 x1 x2 x3 x4 r n := by
  rw [hN, dif_pos h]; rfl

/-- Gamma by column number (zero past the last column). -/
def gN (n : ℕ) : EReal := if h : n < 2560 then x5 (ix2 0 ⟨n, h⟩) else 0

/-- Gamma by column number. -/
theorem gN_of (n : ℕ) (h : n < 2560) : x5 (ix2 0 ⟨n, h⟩) = gN x5 n := by rw [gN, dif_pos h]

/-- The normalised row at row `r` and column number `n` of a block. -/
def nN (r : Fin 512) (n : ℕ) : EReal := hN x0 x1 x2 x3 x4 r n * Ideal.rsqrt (msRow (hB x0 x1 x2 x3 x4 r)) * gN x5 n

/-- Below the width, the normalised value by column number is the row's. -/
theorem nN_eq (r : Fin 512) (n : ℕ) (h : n < 2560) : nN x0 x1 x2 x3 x4 x5 r n = nRow (hB x0 x1 x2 x3 x4 r) (gB x5) ⟨n, h⟩ := by
  rw [nN, hN_eq x0 x1 x2 x3 x4 r n h, gN, dif_pos h]; rfl

/-- The normalised element, with gamma at its column. -/
theorem nN_of (r : Fin 512) (n : ℕ) (h : n < 2560) :
    hN x0 x1 x2 x3 x4 r n * Ideal.rsqrt (msRow (hB x0 x1 x2 x3 x4 r)) * x5 (ix2 0 ⟨n, h⟩) = nN x0 x1 x2 x3 x4 x5 r n := by
  rw [nN, gN, dif_pos h]

/-- The code word at row `r` and column number `n` of a block, with the kernel's power of two. -/
def cN (r : Fin 512) (n : ℕ) : EReal :=
  min (Ideal.ofBits .f32 0x43E00000#32) (max (Ideal.ofBits .f32 0xC3E00000#32)
    (nN x0 x1 x2 x3 x4 x5 r n * kInv (qRow (hB x0 x1 x2 x3 x4 r) (gB x5))))

end Cert.Proj
end
-- ==== Proof.Tiles.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.BlockNumbers

/-! The tiles of 256 columns the kernel computes are the residual stream at their columns. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (c : Dev nD) (arg1 : Memref sig .tc .vmem S1x1x512 .f32) (harg1 : arg1.IsWhole) (arg2 : Memref sig .tc .vmem S512x5120 .fp8e4m3) (harg2 : arg2.IsWhole) (arg3 : Memref sig .tc .vmem S5120x2560 .fp8e4m3) (harg3 : arg3.IsWhole) (arg4 : Memref sig .tc .vmem S1x2560 .f32) (harg4 : arg4.IsWhole) (arg5 : Memref sig .tc .vmem S512x2560 .bf16) (harg5 : arg5.IsWhole)

/-- Tile 0 of the residual stream holds columns 0 to 255. -/
theorem v20_eq : kernelRun0_A.sl.v20 c arg1 harg1 arg2 harg2 arg3 harg3 arg4 harg4 arg5 harg5 x0 x1 x2 x3 x4 = fun i => hN x0 x1 x2 x3 x4 (i 0) (0 + (i 1).val) := by
  funext i
  simp only [kernelRun0_A.sl.v20, kernelRun0_A.sl.v19, kernelRun0_A.sl.v18, kernelRun0_A.sl.v17, kernelRun0_A.sl.v15, kernelRun0_A.sl.v11, kernelRun0_A.sl.v9, kernelRun0_A.sl.v7, kernelRun0_A.sl.cst_6, kernelRun0_A.sl.v10, kernelRun0_A.sl.v4, kernelRun0_A.sl.v3, kernelRun0_A.sl.v2, kernelRun0_A.sl.v1, kernelRun0_A.sl.v14, kernelRun0_A.sl.v13, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) ((i 1).val) (by omega)

/-- Tile 1 of the residual stream holds columns 256 to 511. -/
theorem v42_eq : kernelRun0_A.sl.v42 c arg1 harg1 arg2 harg2 arg3 harg3 arg4 harg4 arg5 harg5 x0 x1 x2 x3 x4 = fun i => hN x0 x1 x2 x3 x4 (i 0) (256 + (i 1).val) := by
  funext i
  simp only [kernelRun0_A.sl.v42, kernelRun0_A.sl.v41, kernelRun0_A.sl.v40, kernelRun0_A.sl.v39, kernelRun0_A.sl.v37, kernelRun0_A.sl.v33, kernelRun0_A.sl.v31, kernelRun0_A.sl.v7, kernelRun0_A.sl.cst_6, kernelRun0_A.sl.v10, kernelRun0_A.sl.v4, kernelRun0_A.sl.v3, kernelRun0_A.sl.v2, kernelRun0_A.sl.v1, kernelRun0_A.sl.v36, kernelRun0_A.sl.v35, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (256 + (i 1).val) (by omega)

/-- Tile 2 of the residual stream holds columns 512 to 767. -/
theorem v64_eq : kernelRun0_A.sl.v64 c arg1 harg1 arg2 harg2 arg3 harg3 arg4 harg4 arg5 harg5 x0 x1 x2 x3 x4 = fun i => hN x0 x1 x2 x3 x4 (i 0) (512 + (i 1).val) := by
  funext i
  simp only [kernelRun0_A.sl.v64, kernelRun0_A.sl.v63, kernelRun0_A.sl.v62, kernelRun0_A.sl.v61, kernelRun0_A.sl.v59, kernelRun0_A.sl.v55, kernelRun0_A.sl.v53, kernelRun0_A.sl.v7, kernelRun0_A.sl.cst_6, kernelRun0_A.sl.v10, kernelRun0_A.sl.v4, kernelRun0_A.sl.v3, kernelRun0_A.sl.v2, kernelRun0_A.sl.v1, kernelRun0_A.sl.v58, kernelRun0_A.sl.v57, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (512 + (i 1).val) (by omega)

/-- Tile 3 of the residual stream holds columns 768 to 1023. -/
theorem v86_eq : kernelRun0_A.sl.v86 c arg1 harg1 arg2 harg2 arg3 harg3 arg4 harg4 arg5 harg5 x0 x1 x2 x3 x4 = fun i => hN x0 x1 x2 x3 x4 (i 0) (768 + (i 1).val) := by
  funext i
  simp only [kernelRun0_A.sl.v86, kernelRun0_A.sl.v85, kernelRun0_A.sl.v84, kernelRun0_A.sl.v83, kernelRun0_A.sl.v81, kernelRun0_A.sl.v77, kernelRun0_A.sl.v75, kernelRun0_A.sl.v7, kernelRun0_A.sl.r, kernelRun0_A.sl.cst_6, kernelRun0_A.sl.v10, kernelRun0_A.sl.v4, kernelRun0_A.sl.v3, kernelRun0_A.sl.v2, kernelRun0_A.sl.v1, kernelRun0_A.sl.v80, kernelRun0_A.sl.v79, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (768 + (i 1).val) (by omega)

/-- Tile 4 of the residual stream holds columns 1024 to 1279. -/
theorem v108_eq : kernelRun0_A.sl.v108 c arg1 harg1 arg2 harg2 arg3 harg3 arg4 harg4 arg5 harg5 x0 x1 x2 x3 x4 = fun i => hN x0 x1 x2 x3 x4 (i 0) (1024 + (i 1).val) := by
  funext i
  simp only [kernelRun0_A.sl.v108, kernelRun0_A.sl.v107, kernelRun0_A.sl.v106, kernelRun0_A.sl.v105, kernelRun0_A.sl.v103, kernelRun0_A.sl.v99, kernelRun0_A.sl.v97, kernelRun0_A.sl.v7, kernelRun0_A.sl.cst_6, kernelRun0_A.sl.v10, kernelRun0_A.sl.v4, kernelRun0_A.sl.v3, kernelRun0_A.sl.v2, kernelRun0_A.sl.v1, kernelRun0_A.sl.v102, kernelRun0_A.sl.v101, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (1024 + (i 1).val) (by omega)

/-- Tile 5 of the residual stream holds columns 1280 to 1535. -/
theorem v130_eq : kernelRun0_A.sl.v130 c arg1 harg1 arg2 harg2 arg3 harg3 arg4 harg4 arg5 harg5 x0 x1 x2 x3 x4 = fun i => hN x0 x1 x2 x3 x4 (i 0) (1280 + (i 1).val) := by
  funext i
  simp only [kernelRun0_A.sl.v130, kernelRun0_A.sl.v129, kernelRun0_A.sl.v128, kernelRun0_A.sl.v127, kernelRun0_A.sl.v125, kernelRun0_A.sl.v121, kernelRun0_A.sl.v119, kernelRun0_A.sl.v7, kernelRun0_A.sl.cst_6, kernelRun0_A.sl.v10, kernelRun0_A.sl.v4, kernelRun0_A.sl.v3, kernelRun0_A.sl.v2, kernelRun0_A.sl.v1, kernelRun0_A.sl.v124, kernelRun0_A.sl.v123, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (1280 + (i 1).val) (by omega)

/-- Tile 6 of the residual stream holds columns 1536 to 1791. -/
theorem v152_eq : kernelRun0_A.sl.v152 c arg1 harg1 arg2 harg2 arg3 harg3 arg4 harg4 arg5 harg5 x0 x1 x2 x3 x4 = fun i => hN x0 x1 x2 x3 x4 (i 0) (1536 + (i 1).val) := by
  funext i
  simp only [kernelRun0_A.sl.v152, kernelRun0_A.sl.v151, kernelRun0_A.sl.v150, kernelRun0_A.sl.v149, kernelRun0_A.sl.v147, kernelRun0_A.sl.v143, kernelRun0_A.sl.v141, kernelRun0_A.sl.v7, kernelRun0_A.sl.cst_6, kernelRun0_A.sl.v10, kernelRun0_A.sl.v4, kernelRun0_A.sl.v3, kernelRun0_A.sl.v2, kernelRun0_A.sl.v1, kernelRun0_A.sl.v146, kernelRun0_A.sl.v145, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (1536 + (i 1).val) (by omega)

/-- Tile 7 of the residual stream holds columns 1792 to 2047. -/
theorem v174_eq : kernelRun0_A.sl.v174 c arg1 harg1 arg2 harg2 arg3 harg3 arg4 harg4 arg5 harg5 x0 x1 x2 x3 x4 = fun i => hN x0 x1 x2 x3 x4 (i 0) (1792 + (i 1).val) := by
  funext i
  simp only [kernelRun0_A.sl.v174, kernelRun0_A.sl.v173, kernelRun0_A.sl.v172, kernelRun0_A.sl.v171, kernelRun0_A.sl.v169, kernelRun0_A.sl.v165, kernelRun0_A.sl.v163, kernelRun0_A.sl.v7, kernelRun0_A.sl.cst_6, kernelRun0_A.sl.v10, kernelRun0_A.sl.v4, kernelRun0_A.sl.v3, kernelRun0_A.sl.v2, kernelRun0_A.sl.v1, kernelRun0_A.sl.v168, kernelRun0_A.sl.v167, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (1792 + (i 1).val) (by omega)

/-- Tile 8 of the residual stream holds columns 2048 to 2303. -/
theorem tile8_eq : k0_pay22 (kernelRun0_A.sl.v191 c arg1 harg1 arg2 harg2 arg3 harg3 arg4 harg4 x0 x1 x2 x3) (View.readAt (Elt Ideal) arg5.view (Rect.unit (s := S512x2560) ![0, 2048] S512x256.size inb_S512x2560_S512x256_0_2048).toLoadRect (harg5.unread x4)) = fun i => hN x0 x1 x2 x3 x4 (i 0) (2048 + (i 1).val) := by
  funext i
  simp only [kernelRun0_A.sl.v191, kernelRun0_A.sl.v187, kernelRun0_A.sl.v185, kernelRun0_A.sl.v7, kernelRun0_A.sl.cst_6, kernelRun0_A.sl.v10, kernelRun0_A.sl.v4, kernelRun0_A.sl.v3, kernelRun0_A.sl.v2, kernelRun0_A.sl.v1, kernelRun0_A.sl.v190, kernelRun0_A.sl.v189, k0_pay22, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (2048 + (i 1).val) (by omega)

/-- Tile 9 of the residual stream holds columns 2304 to 2559. -/
theorem tile9_eq : k0_pay23 (kernelRun0_A.sl.v4 c arg1 harg1 x0) (View.readAt (Elt Ideal) arg2.view (Rect.unit (s := S512x5120) ![0, 0] S512x5120.size inb_S512x5120_S512x5120_0_0).toLoadRect (harg2.unread x1)) (View.readAt (Elt Ideal) arg3.view (Rect.unit (s := S5120x2560) ![0, 2304] S5120x256.size inb_S5120x2560_S5120x256_0_2304).toLoadRect (harg3.unread x2)) (View.readAt (Elt Ideal) arg4.view (Rect.unit (s := S1x2560) ![0, 2304] S1x256.size inb_S1x2560_S1x256_0_2304).toLoadRect (harg4.unread x3)) (View.readAt (Elt Ideal) arg5.view (Rect.unit (s := S512x2560) ![0, 2304] S512x256.size inb_S512x2560_S512x256_0_2304).toLoadRect (harg5.unread x4)) = fun i => hN x0 x1 x2 x3 x4 (i 0) (2304 + (i 1).val) := by
  funext i
  simp only [kernelRun0_A.sl.v4, kernelRun0_A.sl.v3, kernelRun0_A.sl.v2, kernelRun0_A.sl.v1, k0_pay23, View.readAt_eq_ld, harg1.read_unread, harg2.read_unread, harg3.read_unread, harg4.read_unread, harg5.read_unread]
  pointwise
  have hi : (i 1).val < 256 := (i 1).isLt
  simp only [harg1.read_unread, dite_eq_ite, ite_self]
  exact hN_of x0 x1 x2 x3 x4 (i 0) (2304 + (i 1).val) (by omega)

end Cert.Proj
end
-- ==== Proof.Regroup.lean ====
module
public import proofs.«01_k».proof.Proof.Row

/-! Sums and largest values over 2560 columns, taken as twenty chunks of 128 lanes. -/

@[expose] public section
noncomputable section
namespace Cert.Proj
open Idealize.ShloMosaic

/-- The lane sums of `m` chunks of 128 add up to the sum over their columns. -/
theorem sum_lanes (f : ℕ → EReal) (m : ℕ) : ∑ l : Fin 128, ∑ j ∈ Finset.range m, f (128 * j + l.val) = ∑ n ∈ Finset.range (128 * m), f n := by
  rw [Finset.sum_comm]
  induction m with
  | zero => simp
  | succ m ih =>
    rw [Finset.sum_range_succ, ih, Nat.mul_succ, Finset.sum_range_add, Fin.sum_univ_eq_sum_range (fun l => f (128 * m + l)) 128]

/-- The largest magnitude of the first `m` chunks at one lane, from zero. -/
def runMax (f : ℕ → EReal) (l : ℕ) : ℕ → EReal
  | 0 => 0
  | m + 1 => max (runMax f l m) (max (f (128 * m + l)) (-f (128 * m + l)))

/-- It is at most a bound exactly when zero and every magnitude is. -/
theorem runMax_le (f : ℕ → EReal) (l : ℕ) (m : ℕ) (b : EReal) :
    runMax f l m ≤ b ↔ 0 ≤ b ∧ ∀ j < m, max (f (128 * j + l)) (-f (128 * j + l)) ≤ b := by
  induction m with
  | zero => simp [runMax]
  | succ m ih =>
    rw [runMax, max_le_iff, ih]
    constructor
    · rintro ⟨⟨h0, h⟩, h1⟩
      refine ⟨h0, fun j hj => ?_⟩
      rcases Nat.lt_succ_iff_lt_or_eq.mp hj with h2 | rfl
      · exact h j h2
      · exact h1
    · rintro ⟨h0, h⟩
      exact ⟨⟨h0, fun j hj => h j (by omega)⟩, h m (by omega)⟩

/-- A magnitude is not negative. -/
theorem abs_nonneg' (x : EReal) : 0 ≤ max x (-x) := by
  rcases le_total 0 x with h | h
  · exact le_trans h (le_max_left _ _)
  · exact le_trans (EReal.neg_nonneg.mpr h) (le_max_right _ _)

/-- The largest of the lanes' largest magnitudes is the largest magnitude of the row. -/
theorem max_lanes (f : ℕ → EReal) (b : EReal) (hb : b = ⊥) :
    Finset.univ.fold max b (fun l : Fin 128 => runMax f l.val 20) = Finset.univ.fold max b (fun n : Fin 2560 => max (f n.val) (-f n.val)) := by
  apply eq_of_forall_ge_iff
  intro d
  subst hb
  simp only [Finset.fold_max_le, runMax_le, bot_le, true_and, Finset.mem_univ, forall_true_left]
  constructor
  · intro h n
    have := (h ⟨n.val % 128, Nat.mod_lt _ (by norm_num)⟩).2 (n.val / 128) (by omega)
    simpa only [Nat.div_add_mod] using this
  · intro h l
    refine ⟨le_trans (abs_nonneg' (f 0)) (h ⟨0, by norm_num⟩), fun j hj => h ⟨128 * j + l.val, by omega⟩⟩

end Cert.Proj
end
-- ==== Proof.Sums.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.Tiles
public import proofs.«01_k».proof.Proof.Bound
public import proofs.«01_k».proof.Proof.Regroup

/-! The running sums of squares, and the reciprocal root the kernel takes of their total. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (c : Dev nD) (arg1 : Memref sig .tc .vmem S1x1x512 .f32) (harg1 : arg1.IsWhole) (arg2 : Memref sig .tc .vmem S512x5120 .fp8e4m3) (harg2 : arg2.IsWhole) (arg3 : Memref sig .tc .vmem S5120x2560 .fp8e4m3) (harg3 : arg3.IsWhole) (arg4 : Memref sig .tc .vmem S1x2560 .f32) (harg4 : arg4.IsWhole) (arg5 : Memref sig .tc .vmem S512x2560 .bf16) (harg5 : arg5.IsWhole)

/-- The running sum of squares after tile 0. -/
theorem v27_eq : kernelRun0_A.sl.v27 c arg1 harg1 arg2 harg2 arg3 harg3 arg4 harg4 arg5 harg5 x0 x1 x2 x3 x4 = fun i => ∑ j ∈ Finset.range 2, sqN x0 x1 x2 x3 x4 (i 0) (128 * j + (i 1).val) := by
  funext i
  simp only [kernelRun0_A.sl.v27, kernelRun0_A.sl.v25, kernelRun0_A.sl.v5, kernelRun0_A.sl.cst, kernelRun0_A.sl.v24, kernelRun0_A.sl.v23, kernelRun0_A.sl.v22, kernelRun0_A.sl.v26, v20_eq]
  pointwise
  rw [Finset.sum_range_succ (fun j => sqN x0 x1 x2 x3 x4 (i 0) (128 * j + (i 1).val)) 1, Finset.sum_range_succ (fun j => sqN x0 x1 x2 x3 x4 (i 0) (128 * j + (i 1).val)) 0]
  rw [Finset.sum_range_zero, zero_add]
  refine congrArg₂ _ (sqN_of x0 x1 x2 x3 x4 (i 0) _ _ ?_) (sqN_of x0 x1 x2 x3 x4 (i 0) _ _ ?_) <;> omega

/-- The running sum of squares after tile 1. -/
theorem v49_eq : kernelRun0_A.sl.v49 c arg1 harg1 arg2 harg2 arg3 harg3 arg4 harg4 arg5 harg5 x0 x1 x2 x3 x4 = fun i => ∑ j ∈ Finset.range 4, sqN x0 x1 x2 x3 x4 (i 0) (128 * j + (i 1).val) := by
  funext i
  simp only [kernelRun0_A.sl.v49, kernelRun0_A.sl.v47, kernelRun0_A.sl.v46, kernelRun0_A.sl.v45, kernelRun0_A.sl.v44, kernelRun0_A.sl.v48, v27_eq, v42_eq]
  pointwise
  rw [Finset.sum_range_succ (fun j => sqN x0 x1 x2 x3 x4 (i 0) (128 * j + (i 1).val)) 3, Finset.sum_range_succ (fun j => sqN x0 x1 x2 x3 x4 (i 0) (128 * j + (i 1).val)) 2]
  refine congrArg₂ _ (congrArg₂ _ rfl (sqN_of x0 x1 x2 x3 x4 (i 0) _ _ ?_)) (sqN_of x0 x1 x2 x3 x4 (i 0) _ _ ?_) <;> omega

/-- The running sum of squares after tile 2. -/
theorem v71_eq : kernelRun0_A.sl.v71 c arg1 harg1 arg2 harg2 arg3 harg3 arg4 harg4 arg5 harg5 x0 x1 x2 x3 x4 = fun i => ∑ j ∈ Finset.range 6, sqN x0 x1 x2 x3 x4 (i 0) (128 * j + (i 1).val) := by
  funext i
  simp only [kernelRun0_A.sl.v71, kernelRun0_A.sl.v69, kernelRun0_A.sl.v68, kernelRun0_A.sl.v67, kernelRun0_A.sl.v66, kernelRun0_A.sl.v70, v49_eq, v64_eq]
  pointwise
  rw [Finset.sum_range_succ (fun j => sqN x0 x1 x2 x3 x4 (i 0) (128 * j + (i 1).val)) 5, Finset.sum_range_succ (fun j => sqN x0 x1 x2 x3 x4 (i 0) (128 * j + (i 1).val)) 4]
  refine congrArg₂ _ (congrArg₂ _ rfl (sqN_of x0 x1 x2 x3 x4 (i 0) _ _ ?_)) (sqN_of x0 x1 x2 x3 x4 (i 0) _ _ ?_) <;> omega

/-- The running sum of squares after tile 3. -/
theorem v93_eq : kernelRun0_A.sl.v93 c arg1 harg1 arg2 harg2 arg3 harg3 arg4 harg4 arg5 harg5 x0 x1 x2 x3 x4 = fun i => ∑ j ∈ Finset.range 8, sqN x0 x1 x2 x3 x4 (i 0) (128 * j + (i 1).val) := by
  funext i
  simp only [kernelRun0_A.sl.v93, kernelRun0_A.sl.v91, kernelRun0_A.sl.v90, kernelRun0_A.sl.v89, kernelRun0_A.sl.v88, kernelRun0_A.sl.v92, v71_eq, v86_eq]
  pointwise
  rw [Finset.sum_range_succ (fun j => sqN x0 x1 x2 x3 x4 (i 0) (128 * j + (i 1).val)) 7, Finset.sum_range_succ (fun j => sqN x0 x1 x2 x3 x4 (i 0) (128 * j + (i 1).val)) 6]
  refine congrArg₂ _ (congrArg₂ _ rfl (sqN_of x0 x1 x2 x3 x4 (i 0) _ _ ?_)) (sqN_of x0 x1 x2 x3 x4 (i 0) _ _ ?_) <;> omega

/-- The running sum of squares after tile 4. -/
theorem v115_eq : kernelRun0_A.sl.v115 c arg1 harg1 arg2 harg2 arg3 harg3 arg4 harg4 arg5 harg5 x0 x1 x2 x3 x4 = fun i => ∑ j ∈ Finset.range 10, sqN x0 x1 x2 x3 x4 (i 0) (128 * j + (i 1).val) := by
  funext i
  simp only [kernelRun0_A.sl.v115, kernelRun0_A.sl.v113, kernelRun0_A.sl.v112, kernelRun0_A.sl.v111, kernelRun0_A.sl.v110, kernelRun0_A.sl.v114, v93_eq, v108_eq]
  pointwise
  rw [Finset.sum_range_succ (fun j => sqN x0 x1 x2 x3 x4 (i 0) (128 * j + (i 1).val)) 9, Finset.sum_range_succ (fun j => sqN x0 x1 x2 x3 x4 (i 0) (128 * j + (i 1).val)) 8]
  refine congrArg₂ _ (congrArg₂ _ rfl (sqN_of x0 x1 x2 x3 x4 (i 0) _ _ ?_)) (sqN_of x0 x1 x2 x3 x4 (i 0) _ _ ?_) <;> omega

/-- The running sum of squares after tile 5. -/
theorem v137_eq : kernelRun0_A.sl.v137 c arg1 harg1 arg2 harg2 arg3 harg3 arg4 harg4 arg5 harg5 x0 x1 x2 x3 x4 = fun i => ∑ j ∈ Finset.range 12, sqN x0 x1 x2 x3 x4 (i 0) (128 * j + (i 1).val) := by
  funext i
  simp only [kernelRun0_A.sl.v137, kernelRun0_A.sl.v135, kernelRun0_A.sl.v134, kernelRun0_A.sl.v133, kernelRun0_A.sl.v132, kernelRun0_A.sl.v136, v115_eq, v130_eq]
  pointwise
  rw [Finset.sum_range_succ (fun j => sqN x0 x1 x2 x3 x4 (i 0) (128 * j + (i 1).val)) 11, Finset.sum_range_succ (fun j => sqN x0 x1 x2 x3 x4 (i 0) (128 * j + (i 1).val)) 10]
  refine congrArg₂ _ (congrArg₂ _ rfl (sqN_of x0 x1 x2 x3 x4 (i 0) _ _ ?_)) (sqN_of x0 x1 x2 x3 x4 (i 0) _ _ ?_) <;> omega

/-- The running sum of squares after tile 6. -/
theorem v159_eq : kernelRun0_A.sl.v159 c arg1 harg1 arg2 harg2 arg3 harg3 arg4 harg4 arg5 harg5 x0 x1 x2 x3 x4 = fun i => ∑ j ∈ Finset.range 14, sqN x0 x1 x2 x3 x4 (i 0) (128 * j + (i 1).val) := by
  funext i
  simp only [kernelRun0_A.sl.v159, kernelRun0_A.sl.v157, kernelRun0_A.sl.v156, kernelRun0_A.sl.v155, kernelRun0_A.sl.v154, kernelRun0_A.sl.v158, v137_eq, v152_eq]
  pointwise
  rw [Finset.sum_range_succ (fun j => sqN x0 x1 x2 x3 x4 (i 0) (128 * j + (i 1).val)) 13, Finset.sum_range_succ (fun j => sqN x0 x1 x2 x3 x4 (i 0) (128 * j + (i 1).val)) 12]
  refine congrArg₂ _ (congrArg₂ _ rfl (sqN_of x0 x1 x2 x3 x4 (i 0) _ _ ?_)) (sqN_of x0 x1 x2 x3 x4 (i 0) _ _ ?_) <;> omega

/-- The running sum of squares after tile 7. -/
theorem v181_eq : kernelRun0_A.sl.v181 c arg1 harg1 arg2 harg2 arg3 harg3 arg4 harg4 arg5 harg5 x0 x1 x2 x3 x4 = fun i => ∑ j ∈ Finset.range 16, sqN x0 x1 x2 x3 x4 (i 0) (128 * j + (i 1).val) := by
  funext i
  simp only [kernelRun0_A.sl.v181, kernelRun0_A.sl.v179, kernelRun0_A.sl.v178, kernelRun0_A.sl.v177, kernelRun0_A.sl.v176, kernelRun0_A.sl.v180, v159_eq, v174_eq]
  pointwise
  rw [Finset.sum_range_succ (fun j => sqN x0 x1 x2 x3 x4 (i 0) (128 * j + (i 1).val)) 15, Finset.sum_range_succ (fun j => sqN x0 x1 x2 x3 x4 (i 0) (128 * j + (i 1).val)) 14]
  refine congrArg₂ _ (congrArg₂ _ rfl (sqN_of x0 x1 x2 x3 x4 (i 0) _ _ ?_)) (sqN_of x0 x1 x2 x3 x4 (i 0) _ _ ?_) <;> omega

/-- The lane sums of all twenty chunks, over 2560 plus the small constant: the mean square of the row. -/
theorem r_1_eq : kernelRun0_A.sl.r_1 c arg1 harg1 arg2 harg2 arg3 harg3 arg4 harg4 arg5 harg5 x0 x1 x2 x3 x4 = fun i => msRow (hB x0 x1 x2 x3 x4 (i 0)) := by
  funext i
  have e8 := tile8_eq x0 x1 x2 x3 x4 c arg1 harg1 arg2 harg2 arg3 harg3 arg4 harg4 arg5 harg5
  have e9 := tile9_eq x0 x1 x2 x3 x4 c arg1 harg1 arg2 harg2 arg3 harg3 arg4 harg4 arg5 harg5
  unfold kernelRun0_A.sl.r_1 k0_pay24
  rw [e8, e9, v181_eq]
  dsimp only
  pointwise
  unfold msRow
  rw [lenBits, Ideal.div_coe (by norm_num)]
  refine congrArg₂ _ (congrArg₂ _ ?_ (IdealRules.named_const.ideal_named_scalar _ _ _ _ rfl)) rfl
  have hs : (∑ n, hB x0 x1 x2 x3 x4 (i 0) n * hB x0 x1 x2 x3 x4 (i 0) n) = ∑ n ∈ Finset.range (128 * 20), sqN x0 x1 x2 x3 x4 (i 0) n := by
    rw [← Fin.sum_univ_eq_sum_range]
    refine Finset.sum_congr rfl fun n _ => ?_
    exact congrArg₂ (· * ·) (hN_eq x0 x1 x2 x3 x4 (i 0) n.val n.isLt).symm (hN_eq x0 x1 x2 x3 x4 (i 0) n.val n.isLt).symm
  rw [hs, ← sum_lanes]
  refine Finset.sum_congr rfl fun l _ => ?_
  rw [Finset.sum_range_succ (fun j => sqN x0 x1 x2 x3 x4 (i 0) (128 * j + l.val)) 19, Finset.sum_range_succ (fun j => sqN x0 x1 x2 x3 x4 (i 0) (128 * j + l.val)) 18, Finset.sum_range_succ (fun j => sqN x0 x1 x2 x3 x4 (i 0) (128 * j + l.val)) 17, Finset.sum_range_succ (fun j => sqN x0 x1 x2 x3 x4 (i 0) (128 * j + l.val)) 16]
  refine congrArg₂ _ (congrArg₂ _ (congrArg₂ _ (congrArg₂ _ rfl (sqN_of x0 x1 x2 x3 x4 (i 0) _ _ ?_)) (sqN_of x0 x1 x2 x3 x4 (i 0) _ _ ?_))
    (sqN_of x0 x1 x2 x3 x4 (i 0) _ _ ?_)) (sqN_of x0 x1 x2 x3 x4 (i 0) _ _ ?_) <;> omega

/-- The reciprocal root of the mean square, by row. -/
theorem v232_eq : kernelRun0_A.sl.v232 c arg1 harg1 arg2 harg2 arg3 harg3 arg4 harg4 arg5 harg5 x0 x1 x2 x3 x4 = fun i => Ideal.rsqrt (msRow (hB x0 x1 x2 x3 x4 (i 0))) := by
  unfold kernelRun0_A.sl.v232
  rw [r_1_eq]
  rfl

end Cert.Proj
end
-- ==== Proof.ReadBack.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.Tiles

/-! The output block the tiles are stored to holds the residual stream, and so do the loads from it. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (c : Dev nD) (arg1 : Memref sig .tc .vmem S1x1x512 .f32) (harg1 : arg1.IsWhole) (arg2 : Memref sig .tc .vmem S512x5120 .fp8e4m3) (harg2 : arg2.IsWhole) (arg3 : Memref sig .tc .vmem S5120x2560 .fp8e4m3) (harg3 : arg3.IsWhole) (arg4 : Memref sig .tc .vmem S1x2560 .f32) (harg4 : arg4.IsWhole) (arg5 : Memref sig .tc .vmem S512x2560 .bf16) (harg5 : arg5.IsWhole)
variable (arg7 : Memref sig .tc .vmem S512x2560 .bf16)

/-- The residual stream of the block as an array. -/
def hArr : S512x2560.Idx → EReal := fun y => hN x0 x1 x2 x3 x4 (y 0) (y 1).val

/-- A piece holding its columns of the array, on top of pieces of the array. -/
theorem pieces_cons (o : ℕ) (inb : ∀ a, ![0, o] a + S512x256.size a ≤ S512x2560.size a) (v : S512x256.Idx → EReal)
    (L : List (View.Piece (Elt Ideal) S512x2560 .bf16)) (hv : v = fun x => hN x0 x1 x2 x3 x4 (x 0) (o + (x 1).val))
    (hL : View.PiecesOf (Val := Elt Ideal) (hArr x0 x1 x2 x3 x4) L) :
    View.PiecesOf (Val := Elt Ideal) (hArr x0 x1 x2 x3 x4) (⟨Rect.unit (s := S512x2560) ![0, o] S512x256.size inb, v⟩ :: L) := by
  refine ⟨fun (x : S512x256.Idx) => ?_, hL⟩
  subst hv
  have h0 : (((Rect.unit (s := S512x2560) ![0, o] S512x256.size inb).emb x) 0).val = 0 + 1 * (x 0).val := rfl
  have h1 : (((Rect.unit (s := S512x2560) ![0, o] S512x256.size inb).emb x) 1).val = o + 1 * (x 1).val := rfl
  show hN x0 x1 x2 x3 x4 (x 0) (o + (x 1).val) = hN x0 x1 x2 x3 x4 _ _
  rw [h1, one_mul]
  congr 1
  apply Fin.ext
  rw [h0]; omega

/-- Every stored piece is a part of it. -/
theorem H6_pieces : View.PiecesOf (Val := Elt Ideal) (hArr x0 x1 x2 x3 x4) (kernelRun0_A.sl.H6_10 c arg1 harg1 arg2 harg2 arg3 harg3 arg4 harg4 arg5 harg5 x0 x1 x2 x3 x4) := by
  unfold kernelRun0_A.sl.H6_10
  refine pieces_cons x0 x1 x2 x3 x4 2304 _ _ _ (tile9_eq x0 x1 x2 x3 x4 c arg1 harg1 arg2 harg2 arg3 harg3 arg4 harg4 arg5 harg5) ?_
  refine pieces_cons x0 x1 x2 x3 x4 2048 _ _ _ (tile8_eq x0 x1 x2 x3 x4 c arg1 harg1 arg2 harg2 arg3 harg3 arg4 harg4 arg5 harg5) ?_
  refine pieces_cons x0 x1 x2 x3 x4 1792 _ _ _ (v174_eq x0 x1 x2 x3 x4 c arg1 harg1 arg2 harg2 arg3 harg3 arg4 harg4 arg5 harg5) ?_
  refine pieces_cons x0 x1 x2 x3 x4 1536 _ _ _ (v152_eq x0 x1 x2 x3 x4 c arg1 harg1 arg2 harg2 arg3 harg3 arg4 harg4 arg5 harg5) ?_
  refine pieces_cons x0 x1 x2 x3 x4 1280 _ _ _ (v130_eq x0 x1 x2 x3 x4 c arg1 harg1 arg2 harg2 arg3 harg3 arg4 harg4 arg5 harg5) ?_
  refine pieces_cons x0 x1 x2 x3 x4 1024 _ _ _ (v108_eq x0 x1 x2 x3 x4 c arg1 harg1 arg2 harg2 arg3 harg3 arg4 harg4 arg5 harg5) ?_
  refine pieces_cons x0 x1 x2 x3 x4 768 _ _ _ (v86_eq x0 x1 x2 x3 x4 c arg1 harg1 arg2 harg2 arg3 harg3 arg4 harg4 arg5 harg5) ?_
  refine pieces_cons x0 x1 x2 x3 x4 512 _ _ _ (v64_eq x0 x1 x2 x3 x4 c arg1 harg1 arg2 harg2 arg3 harg3 arg4 harg4 arg5 harg5) ?_
  refine pieces_cons x0 x1 x2 x3 x4 256 _ _ _ (v42_eq x0 x1 x2 x3 x4 c arg1 harg1 arg2 harg2 arg3 harg3 arg4 harg4 arg5 harg5) ?_
  refine pieces_cons x0 x1 x2 x3 x4 0 _ _ _ (v20_eq x0 x1 x2 x3 x4 c arg1 harg1 arg2 harg2 arg3 harg3 arg4 harg4 arg5 harg5) ?_
  trivial

/-- The pieces cover the block. -/
theorem H6_cover (y : S512x2560.Idx) : ∃ p ∈ kernelRun0_A.sl.H6_10 c arg1 harg1 arg2 harg2 arg3 harg3 arg4 harg4 arg5 harg5 x0 x1 x2 x3 x4, y ∈ p.1.set :=
  View.cover_of_tiledL (kernelRun0_A.sl.H6_10 c arg1 harg1 arg2 harg2 arg3 harg3 arg4 harg4 arg5 harg5 x0 x1 x2 x3 x4) S512x256.size (by sl_kernel_rfl) y

/-- Read back whole, the pieces are the residual stream. -/
theorem H6_canon : View.canon (kernelRun0_A.sl.H6_10 c arg1 harg1 arg2 harg2 arg3 harg3 arg4 harg4 arg5 harg5 x0 x1 x2 x3 x4) = hArr x0 x1 x2 x3 x4 := by
  funext y
  have := View.canon_append_of_piecesOf (hArr x0 x1 x2 x3 x4) [] _ (H6_pieces x0 x1 x2 x3 x4 c arg1 harg1 arg2 harg2 arg3 harg3 arg4 harg4 arg5 harg5) y (H6_cover x0 x1 x2 x3 x4 c arg1 harg1 arg2 harg2 arg3 harg3 arg4 harg4 arg5 harg5 y)
  rwa [List.append_nil] at this

/-- A load of 128 columns reads the residual stream there. -/
theorem H6_read (o : ℕ) (inb : ∀ a, ![0, o] a + S512x128.size a ≤ S512x2560.size a) :
    arg7.view.readCov (kernelRun0_A.sl.H6_10 c arg1 harg1 arg2 harg2 arg3 harg3 arg4 harg4 arg5 harg5 x0 x1 x2 x3 x4) (Rect.unit (s := S512x2560) ![0, o] S512x128.size inb).toLoadRect
      = fun x : S512x128.Idx => hN x0 x1 x2 x3 x4 (x 0) (o + (x 1).val) := by
  rw [View.readCov_eq_canon', H6_canon]
  funext x
  show hN x0 x1 x2 x3 x4 _ _ = _
  have h0 : ((Rect.unit (s := S512x2560) ![0, o] S512x128.size inb).toLoadRect.idx x 0).val = 0 + 1 * (x 0).val := rfl
  have h1 : ((Rect.unit (s := S512x2560) ![0, o] S512x128.size inb).toLoadRect.idx x 1).val = o + 1 * (x 1).val := rfl
  rw [h1, one_mul]
  congr 1
  apply Fin.ext
  rw [h0]; omega

/-- The load of chunk 0. -/
theorem v234_eq : kernelRun0_A.sl.v234 c arg1 harg1 arg2 harg2 arg3 harg3 arg4 harg4 arg5 harg5 arg7 x0 x1 x2 x3 x4 = fun x : S512x128.Idx => hN x0 x1 x2 x3 x4 (x 0) (0 + (x 1).val) :=
  H6_read x0 x1 x2 x3 x4 c arg1 harg1 arg2 harg2 arg3 harg3 arg4 harg4 arg5 harg5 arg7 0 _

/-- The load of chunk 1. -/
theorem v245_eq : kernelRun0_A.sl.v245 c arg1 harg1 arg2 harg2 arg3 harg3 arg4 harg4 arg5 harg5 arg7 x0 x1 x2 x3 x4 = fun x : S512x128.Idx => hN x0 x1 x2 x3 x4 (x 0) (128 + (x 1).val) :=
  H6_read x0 x1 x2 x3 x4 c arg1 harg1 arg2 harg2 arg3 harg3 arg4 harg4 arg5 harg5 arg7 128 _

/-- The load of chunk 2. -/
theorem v256_eq : kernelRun0_A.sl.v256 c arg1 harg1 arg2 harg2 arg3 harg3 arg4 harg4 arg5 harg5 arg7 x0 x1 x2 x3 x4 = fun x : S512x128.Idx => hN x0 x1 x2 x3 x4 (x 0) (256 + (x 1).val) :=
  H6_read x0 x1 x2 x3 x4 c arg1 harg1 arg2 harg2 arg3 harg3 arg4 harg4 arg5 harg5 arg7 256 _

/-- The load of chunk 3. -/
theorem v267_eq : kernelRun0_A.sl.v267 c arg1 harg1 arg2 harg2 arg3 harg3 arg4 harg4 arg5 harg5 arg7 x0 x1 x2 x3 x4 = fun x : S512x128.Idx => hN x0 x1 x2 x3 x4 (x 0) (384 + (x 1).val) :=
  H6_read x0 x1 x2 x3 x4 c arg1 harg1 arg2 harg2 arg3 harg3 arg4 harg4 arg5 harg5 arg7 384 _

/-- The load of chunk 4. -/
theorem v278_eq : kernelRun0_A.sl.v278 c arg1 harg1 arg2 harg2 arg3 harg3 arg4 harg4 arg5 harg5 arg7 x0 x1 x2 x3 x4 = fun x : S512x128.Idx => hN x0 x1 x2 x3 x4 (x 0) (512 + (x 1).val) :=
  H6_read x0 x1 x2 x3 x4 c arg1 harg1 arg2 harg2 arg3 harg3 arg4 harg4 arg5 harg5 arg7 512 _

/-- The load of chunk 5. -/
theorem v289_eq : kernelRun0_A.sl.v289 c arg1 harg1 arg2 harg2 arg3 harg3 arg4 harg4 arg5 harg5 arg7 x0 x1 x2 x3 x4 = fun x : S512x128.Idx => hN x0 x1 x2 x3 x4 (x 0) (640 + (x 1).val) :=
  H6_read x0 x1 x2 x3 x4 c arg1 harg1 arg2 harg2 arg3 harg3 arg4 harg4 arg5 harg5 arg7 640 _

/-- The load of chunk 6. -/
theorem v300_eq : kernelRun0_A.sl.v300 c arg1 harg1 arg2 harg2 arg3 harg3 arg4 harg4 arg5 harg5 arg7 x0 x1 x2 x3 x4 = fun x : S512x128.Idx => hN x0 x1 x2 x3 x4 (x 0) (768 + (x 1).val) :=
  H6_read x0 x1 x2 x3 x4 c arg1 harg1 arg2 harg2 arg3 harg3 arg4 harg4 arg5 harg5 arg7 768 _

/-- The load of chunk 7. -/
theorem v311_eq : kernelRun0_A.sl.v311 c arg1 harg1 arg2 harg2 arg3 harg3 arg4 harg4 arg5 harg5 arg7 x0 x1 x2 x3 x4 = fun x : S512x128.Idx => hN x0 x1 x2 x3 x4 (x 0) (896 + (x 1).val) :=
  H6_read x0 x1 x2 x3 x4 c arg1 harg1 arg2 harg2 arg3 harg3 arg4 harg4 arg5 harg5 arg7 896 _

/-- The load of chunk 8. -/
theorem v322_eq : kernelRun0_A.sl.v322 c arg1 harg1 arg2 harg2 arg3 harg3 arg4 harg4 arg5 harg5 arg7 x0 x1 x2 x3 x4 = fun x : S512x128.Idx => hN x0 x1 x2 x3 x4 (x 0) (1024 + (x 1).val) :=
  H6_read x0 x1 x2 x3 x4 c arg1 harg1 arg2 harg2 arg3 harg3 arg4 harg4 arg5 harg5 arg7 1024 _

/-- The load of chunk 9. -/
theorem v333_eq : kernelRun0_A.sl.v333 c arg1 harg1 arg2 harg2 arg3 harg3 arg4 harg4 arg5 harg5 arg7 x0 x1 x2 x3 x4 = fun x : S512x128.Idx => hN x0 x1 x2 x3 x4 (x 0) (1152 + (x 1).val) :=
  H6_read x0 x1 x2 x3 x4 c arg1 harg1 arg2 harg2 arg3 harg3 arg4 harg4 arg5 harg5 arg7 1152 _

/-- The load of chunk 10. -/
theorem v344_eq : kernelRun0_A.sl.v344 c arg1 harg1 arg2 harg2 arg3 harg3 arg4 harg4 arg5 harg5 arg7 x0 x1 x2 x3 x4 = fun x : S512x128.Idx => hN x0 x1 x2 x3 x4 (x 0) (1280 + (x 1).val) :=
  H6_read x0 x1 x2 x3 x4 c arg1 harg1 arg2 harg2 arg3 harg3 arg4 harg4 arg5 harg5 arg7 1280 _

/-- The load of chunk 11. -/
theorem v355_eq : kernelRun0_A.sl.v355 c arg1 harg1 arg2 harg2 arg3 harg3 arg4 harg4 arg5 harg5 arg7 x0 x1 x2 x3 x4 = fun x : S512x128.Idx => hN x0 x1 x2 x3 x4 (x 0) (1408 + (x 1).val) :=
  H6_read x0 x1 x2 x3 x4 c arg1 harg1 arg2 harg2 arg3 harg3 arg4 harg4 arg5 harg5 arg7 1408 _

/-- The load of chunk 12. -/
theorem v366_eq : kernelRun0_A.sl.v366 c arg1 harg1 arg2 harg2 arg3 harg3 arg4 harg4 arg5 harg5 arg7 x0 x1 x2 x3 x4 = fun x : S512x128.Idx => hN x0 x1 x2 x3 x4 (x 0) (1536 + (x 1).val) :=
  H6_read x0 x1 x2 x3 x4 c arg1 harg1 arg2 harg2 arg3 harg3 arg4 harg4 arg5 harg5 arg7 1536 _

/-- The load of chunk 13. -/
theorem v377_eq : kernelRun0_A.sl.v377 c arg1 harg1 arg2 harg2 arg3 harg3 arg4 harg4 arg5 harg5 arg7 x0 x1 x2 x3 x4 = fun x : S512x128.Idx => hN x0 x1 x2 x3 x4 (x 0) (1664 + (x 1).val) :=
  H6_read x0 x1 x2 x3 x4 c arg1 harg1 arg2 harg2 arg3 harg3 arg4 harg4 arg5 harg5 arg7 1664 _

/-- The load of chunk 14. -/
theorem v388_eq : kernelRun0_A.sl.v388 c arg1 harg1 arg2 harg2 arg3 harg3 arg4 harg4 arg5 harg5 arg7 x0 x1 x2 x3 x4 = fun x : S512x128.Idx => hN x0 x1 x2 x3 x4 (x 0) (1792 + (x 1).val) :=
  H6_read x0 x1 x2 x3 x4 c arg1 harg1 arg2 harg2 arg3 harg3 arg4 harg4 arg5 harg5 arg7 1792 _

/-- The load of chunk 15. -/
theorem v399_eq : kernelRun0_A.sl.v399 c arg1 harg1 arg2 harg2 arg3 harg3 arg4 harg4 arg5 harg5 arg7 x0 x1 x2 x3 x4 = fun x : S512x128.Idx => hN x0 x1 x2 x3 x4 (x 0) (1920 + (x 1).val) :=
  H6_read x0 x1 x2 x3 x4 c arg1 harg1 arg2 harg2 arg3 harg3 arg4 harg4 arg5 harg5 arg7 1920 _

/-- The load of chunk 16. -/
theorem v410_eq : kernelRun0_A.sl.v410 c arg1 harg1 arg2 harg2 arg3 harg3 arg4 harg4 arg5 harg5 arg7 x0 x1 x2 x3 x4 = fun x : S512x128.Idx => hN x0 x1 x2 x3 x4 (x 0) (2048 + (x 1).val) :=
  H6_read x0 x1 x2 x3 x4 c arg1 harg1 arg2 harg2 arg3 harg3 arg4 harg4 arg5 harg5 arg7 2048 _

/-- The load of chunk 17. -/
theorem v421_eq : kernelRun0_A.sl.v421 c arg1 harg1 arg2 harg2 arg3 harg3 arg4 harg4 arg5 harg5 arg7 x0 x1 x2 x3 x4 = fun x : S512x128.Idx => hN x0 x1 x2 x3 x4 (x 0) (2176 + (x 1).val) :=
  H6_read x0 x1 x2 x3 x4 c arg1 harg1 arg2 harg2 arg3 harg3 arg4 harg4 arg5 harg5 arg7 2176 _

/-- The load of chunk 18. -/
theorem v432_eq : kernelRun0_A.sl.v432 c arg1 harg1 arg2 harg2 arg3 harg3 arg4 harg4 arg5 harg5 arg7 x0 x1 x2 x3 x4 = fun x : S512x128.Idx => hN x0 x1 x2 x3 x4 (x 0) (2304 + (x 1).val) :=
  H6_read x0 x1 x2 x3 x4 c arg1 harg1 arg2 harg2 arg3 harg3 arg4 harg4 arg5 harg5 arg7 2304 _

/-- The load of chunk 19. -/
theorem v443_eq : kernelRun0_A.sl.v443 c arg1 harg1 arg2 harg2 arg3 harg3 arg4 harg4 arg5 harg5 arg7 x0 x1 x2 x3 x4 = fun x : S512x128.Idx => hN x0 x1 x2 x3 x4 (x 0) (2432 + (x 1).val) :=
  H6_read x0 x1 x2 x3 x4 c arg1 harg1 arg2 harg2 arg3 harg3 arg4 harg4 arg5 harg5 arg7 2432 _

/-- The load of chunk 19. -/
theorem v854_eq : kernelRun0_A.sl.v854 c arg1 harg1 arg2 harg2 arg3 harg3 arg4 harg4 arg5 harg5 arg7 x0 x1 x2 x3 x4 = fun x : S512x128.Idx => hN x0 x1 x2 x3 x4 (x 0) (2432 + (x 1).val) :=
  H6_read x0 x1 x2 x3 x4 c arg1 harg1 arg2 harg2 arg3 harg3 arg4 harg4 arg5 harg5 arg7 2432 _

end Cert.Proj
end
-- ==== Proof.Norm.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.Sums
public import proofs.«01_k».proof.Proof.ReadBack

/-! The chunks of 128 columns of the normalised rows, and their largest magnitude. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (x5 : Vec Ideal S1x2560 .f32)
variable (c : Dev nD) (arg1 : Memref sig .tc .vmem S1x1x512 .f32) (harg1 : arg1.IsWhole) (arg2 : Memref sig .tc .vmem S512x5120 .fp8e4m3) (harg2 : arg2.IsWhole) (arg3 : Memref sig .tc .vmem S5120x2560 .fp8e4m3) (harg3 : arg3.IsWhole) (arg4 : Memref sig .tc .vmem S1x2560 .f32) (harg4 : arg4.IsWhole) (arg5 : Memref sig .tc .vmem S512x2560 .bf16) (harg5 : arg5.IsWhole)
variable (arg6 : Memref sig .tc .vmem S1x2560 .f32) (harg6 : arg6.IsWhole) (arg7 : Memref sig .tc .vmem S512x2560 .bf16)

/-- Chunk 0 of the normalised rows holds columns 0 to 127. -/
theorem v242_eq : kernelRun0_A.sl.v242 c arg1 harg1 arg2 harg2 arg3 harg3 arg4 harg4 arg5 harg5 arg6 harg6 arg7 x0 x1 x2 x3 x4 x5 = fun i => nN x0 x1 x2 x3 x4 x5 (i 0) (0 + (i 1).val) := by
  funext i
  simp only [kernelRun0_A.sl.v242, kernelRun0_A.sl.v238, kernelRun0_A.sl.v236, kernelRun0_A.sl.v235, kernelRun0_A.sl.v237, kernelRun0_A.sl.v241, kernelRun0_A.sl.v240, v234_eq, v232_eq, View.readAt_eq_ld, harg6.read_unread]
  pointwise
  have hi : (i 1).val < 128 := (i 1).isLt
  exact nN_of x0 x1 x2 x3 x4 x5 (i 0) ((i 1).val) (by omega)

/-- Chunk 1 of the normalised rows holds columns 128 to 255. -/
theorem v253_eq : kernelRun0_A.sl.v253 c arg1 harg1 arg2 harg2 arg3 harg3 arg4 harg4 arg5 harg5 arg6 harg6 arg7 x0 x1 x2 x3 x4 x5 = fun i => nN x0 x1 x2 x3 x4 x5 (i 0) (128 + (i 1).val) := by
  funext i
  simp only [kernelRun0_A.sl.v253, kernelRun0_A.sl.v249, kernelRun0_A.sl.v247, kernelRun0_A.sl.v246, kernelRun0_A.sl.v237, kernelRun0_A.sl.v252, kernelRun0_A.sl.v251, v245_eq, v232_eq, View.readAt_eq_ld, harg6.read_unread]
  pointwise
  have hi : (i 1).val < 128 := (i 1).isLt
  exact nN_of x0 x1 x2 x3 x4 x5 (i 0) (128 + (i 1).val) (by omega)

/-- Chunk 2 of the normalised rows holds columns 256 to 383. -/
theorem v264_eq : kernelRun0_A.sl.v264 c arg1 harg1 arg2 harg2 arg3 harg3 arg4 harg4 arg5 harg5 arg6 harg6 arg7 x0 x1 x2 x3 x4 x5 = fun i => nN x0 x1 x2 x3 x4 x5 (i 0) (256 + (i 1).val) := by
  funext i
  simp only [kernelRun0_A.sl.v264, kernelRun0_A.sl.v260, kernelRun0_A.sl.v258, kernelRun0_A.sl.v257, kernelRun0_A.sl.v237, kernelRun0_A.sl.v263, kernelRun0_A.sl.v262, v256_eq, v232_eq, View.readAt_eq_ld, harg6.read_unread]
  pointwise
  have hi : (i 1).val < 128 := (i 1).isLt
  exact nN_of x0 x1 x2 x3 x4 x5 (i 0) (256 + (i 1).val) (by omega)

/-- Chunk 3 of the normalised rows holds columns 384 to 511. -/
theorem v275_eq : kernelRun0_A.sl.v275 c arg1 harg1 arg2 harg2 arg3 harg3 arg4 harg4 arg5 harg5 arg6 harg6 arg7 x0 x1 x2 x3 x4 x5 = fun i => nN x0 x1 x2 x3 x4 x5 (i 0) (384 + (i 1).val) := by
  funext i
  simp only [kernelRun0_A.sl.v275, kernelRun0_A.sl.v271, kernelRun0_A.sl.v269, kernelRun0_A.sl.v268, kernelRun0_A.sl.v237, kernelRun0_A.sl.v274, kernelRun0_A.sl.v273, v267_eq, v232_eq, View.readAt_eq_ld, harg6.read_unread]
  pointwise
  have hi : (i 1).val < 128 := (i 1).isLt
  exact nN_of x0 x1 x2 x3 x4 x5 (i 0) (384 + (i 1).val) (by omega)

/-- Chunk 4 of the normalised rows holds columns 512 to 639. -/
theorem v286_eq : kernelRun0_A.sl.v286 c arg1 harg1 arg2 harg2 arg3 harg3 arg4 harg4 arg5 harg5 arg6 harg6 arg7 x0 x1 x2 x3 x4 x5 = fun i => nN x0 x1 x2 x3 x4 x5 (i 0) (512 + (i 1).val) := by
  funext i
  simp only [kernelRun0_A.sl.v286, kernelRun0_A.sl.v282, kernelRun0_A.sl.v280, kernelRun0_A.sl.v279, kernelRun0_A.sl.v237, kernelRun0_A.sl.v285, kernelRun0_A.sl.v284, v278_eq, v232_eq, View.readAt_eq_ld, harg6.read_unread]
  pointwise
  have hi : (i 1).val < 128 := (i 1).isLt
  exact nN_of x0 x1 x2 x3 x4 x5 (i 0) (512 + (i 1).val) (by omega)

/-- Chunk 5 of the normalised rows holds columns 640 to 767. -/
theorem v297_eq : kernelRun0_A.sl.v297 c arg1 harg1 arg2 harg2 arg3 harg3 arg4 harg4 arg5 harg5 arg6 harg6 arg7 x0 x1 x2 x3 x4 x5 = fun i => nN x0 x1 x2 x3 x4 x5 (i 0) (640 + (i 1).val) := by
  funext i
  simp only [kernelRun0_A.sl.v297, kernelRun0_A.sl.v293, kernelRun0_A.sl.v291, kernelRun0_A.sl.v290, kernelRun0_A.sl.v237, kernelRun0_A.sl.v296, kernelRun0_A.sl.v295, v289_eq, v232_eq, View.readAt_eq_ld, harg6.read_unread]
  pointwise
  have hi : (i 1).val < 128 := (i 1).isLt
  exact nN_of x0 x1 x2 x3 x4 x5 (i 0) (640 + (i 1).val) (by omega)

/-- Chunk 6 of the normalised rows holds columns 768 to 895. -/
theorem v308_eq : kernelRun0_A.sl.v308 c arg1 harg1 arg2 harg2 arg3 harg3 arg4 harg4 arg5 harg5 arg6 harg6 arg7 x0 x1 x2 x3 x4 x5 = fun i => nN x0 x1 x2 x3 x4 x5 (i 0) (768 + (i 1).val) := by
  funext i
  simp only [kernelRun0_A.sl.v308, kernelRun0_A.sl.v304, kernelRun0_A.sl.v302, kernelRun0_A.sl.v301, kernelRun0_A.sl.v237, kernelRun0_A.sl.v307, kernelRun0_A.sl.v306, v300_eq, v232_eq, View.readAt_eq_ld, harg6.read_unread]
  pointwise
  have hi : (i 1).val < 128 := (i 1).isLt
  exact nN_of x0 x1 x2 x3 x4 x5 (i 0) (768 + (i 1).val) (by omega)

/-- Chunk 7 of the normalised rows holds columns 896 to 1023. -/
theorem v319_eq : kernelRun0_A.sl.v319 c arg1 harg1 arg2 harg2 arg3 harg3 arg4 harg4 arg5 harg5 arg6 harg6 arg7 x0 x1 x2 x3 x4 x5 = fun i => nN x0 x1 x2 x3 x4 x5 (i 0) (896 + (i 1).val) := by
  funext i
  simp only [kernelRun0_A.sl.v319, kernelRun0_A.sl.v315, kernelRun0_A.sl.v313, kernelRun0_A.sl.v312, kernelRun0_A.sl.v237, kernelRun0_A.sl.v318, kernelRun0_A.sl.v317, v311_eq, v232_eq, View.readAt_eq_ld, harg6.read_unread]
  pointwise
  have hi : (i 1).val < 128 := (i 1).isLt
  exact nN_of x0 x1 x2 x3 x4 x5 (i 0) (896 + (i 1).val) (by omega)

/-- Chunk 8 of the normalised rows holds columns 1024 to 1151. -/
theorem v330_eq : kernelRun0_A.sl.v330 c arg1 harg1 arg2 harg2 arg3 harg3 arg4 harg4 arg5 harg5 arg6 harg6 arg7 x0 x1 x2 x3 x4 x5 = fun i => nN x0 x1 x2 x3 x4 x5 (i 0) (1024 + (i 1).val) := by
  funext i
  simp only [kernelRun0_A.sl.v330, kernelRun0_A.sl.v326, kernelRun0_A.sl.v324, kernelRun0_A.sl.v323, kernelRun0_A.sl.v237, kernelRun0_A.sl.v329, kernelRun0_A.sl.v328, v322_eq, v232_eq, View.readAt_eq_ld, harg6.read_unread]
  pointwise
  have hi : (i 1).val < 128 := (i 1).isLt
  exact nN_of x0 x1 x2 x3 x4 x5 (i 0) (1024 + (i 1).val) (by omega)

/-- Chunk 9 of the normalised rows holds columns 1152 to 1279. -/
theorem v341_eq : kernelRun0_A.sl.v341 c arg1 harg1 arg2 harg2 arg3 harg3 arg4 harg4 arg5 harg5 arg6 harg6 arg7 x0 x1 x2 x3 x4 x5 = fun i => nN x0 x1 x2 x3 x4 x5 (i 0) (1152 + (i 1).val) := by
  funext i
  simp only [kernelRun0_A.sl.v341, kernelRun0_A.sl.v337, kernelRun0_A.sl.v335, kernelRun0_A.sl.v334, kernelRun0_A.sl.v237, kernelRun0_A.sl.v340, kernelRun0_A.sl.v339, v333_eq, v232_eq, View.readAt_eq_ld, harg6.read_unread]
  pointwise
  have hi : (i 1).val < 128 := (i 1).isLt
  exact nN_of x0 x1 x2 x3 x4 x5 (i 0) (1152 + (i 1).val) (by omega)

/-- Chunk 10 of the normalised rows holds columns 1280 to 1407. -/
theorem v352_eq : kernelRun0_A.sl.v352 c arg1 harg1 arg2 harg2 arg3 harg3 arg4 harg4 arg5 harg5 arg6 harg6 arg7 x0 x1 x2 x3 x4 x5 = fun i => nN x0 x1 x2 x3 x4 x5 (i 0) (1280 + (i 1).val) := by
  funext i
  simp only [kernelRun0_A.sl.v352, kernelRun0_A.sl.v348, kernelRun0_A.sl.v346, kernelRun0_A.sl.v345, kernelRun0_A.sl.v237, kernelRun0_A.sl.v351, kernelRun0_A.sl.v350, v344_eq, v232_eq, View.readAt_eq_ld, harg6.read_unread]
  pointwise
  have hi : (i 1).val < 128 := (i 1).isLt
  exact nN_of x0 x1 x2 x3 x4 x5 (i 0) (1280 + (i 1).val) (by omega)

/-- Chunk 11 of the normalised rows holds columns 1408 to 1535. -/
theorem v363_eq : kernelRun0_A.sl.v363 c arg1 harg1 arg2 harg2 arg3 harg3 arg4 harg4 arg5 harg5 arg6 harg6 arg7 x0 x1 x2 x3 x4 x5 = fun i => nN x0 x1 x2 x3 x4 x5 (i 0) (1408 + (i 1).val) := by
  funext i
  simp only [kernelRun0_A.sl.v363, kernelRun0_A.sl.v359, kernelRun0_A.sl.v357, kernelRun0_A.sl.v356, kernelRun0_A.sl.v237, kernelRun0_A.sl.v362, kernelRun0_A.sl.v361, v355_eq, v232_eq, View.readAt_eq_ld, harg6.read_unread]
  pointwise
  have hi : (i 1).val < 128 := (i 1).isLt
  exact nN_of x0 x1 x2 x3 x4 x5 (i 0) (1408 + (i 1).val) (by omega)

/-- Chunk 12 of the normalised rows holds columns 1536 to 1663. -/
theorem v374_eq : kernelRun0_A.sl.v374 c arg1 harg1 arg2 harg2 arg3 harg3 arg4 harg4 arg5 harg5 arg6 harg6 arg7 x0 x1 x2 x3 x4 x5 = fun i => nN x0 x1 x2 x3 x4 x5 (i 0) (1536 + (i 1).val) := by
  funext i
  simp only [kernelRun0_A.sl.v374, kernelRun0_A.sl.v370, kernelRun0_A.sl.v368, kernelRun0_A.sl.v367, kernelRun0_A.sl.v237, kernelRun0_A.sl.v373, kernelRun0_A.sl.v372, v366_eq, v232_eq, View.readAt_eq_ld, harg6.read_unread]
  pointwise
  have hi : (i 1).val < 128 := (i 1).isLt
  exact nN_of x0 x1 x2 x3 x4 x5 (i 0) (1536 + (i 1).val) (by omega)

/-- Chunk 13 of the normalised rows holds columns 1664 to 1791. -/
theorem v385_eq : kernelRun0_A.sl.v385 c arg1 harg1 arg2 harg2 arg3 harg3 arg4 harg4 arg5 harg5 arg6 harg6 arg7 x0 x1 x2 x3 x4 x5 = fun i => nN x0 x1 x2 x3 x4 x5 (i 0) (1664 + (i 1).val) := by
  funext i
  simp only [kernelRun0_A.sl.v385, kernelRun0_A.sl.v381, kernelRun0_A.sl.v379, kernelRun0_A.sl.v378, kernelRun0_A.sl.v237, kernelRun0_A.sl.v384, kernelRun0_A.sl.v383, v377_eq, v232_eq, View.readAt_eq_ld, harg6.read_unread]
  pointwise
  have hi : (i 1).val < 128 := (i 1).isLt
  exact nN_of x0 x1 x2 x3 x4 x5 (i 0) (1664 + (i 1).val) (by omega)

/-- Chunk 14 of the normalised rows holds columns 1792 to 1919. -/
theorem v396_eq : kernelRun0_A.sl.v396 c arg1 harg1 arg2 harg2 arg3 harg3 arg4 harg4 arg5 harg5 arg6 harg6 arg7 x0 x1 x2 x3 x4 x5 = fun i => nN x0 x1 x2 x3 x4 x5 (i 0) (1792 + (i 1).val) := by
  funext i
  simp only [kernelRun0_A.sl.v396, kernelRun0_A.sl.v392, kernelRun0_A.sl.v390, kernelRun0_A.sl.v389, kernelRun0_A.sl.v237, kernelRun0_A.sl.v395, kernelRun0_A.sl.v394, v388_eq, v232_eq, View.readAt_eq_ld, harg6.read_unread]
  pointwise
  have hi : (i 1).val < 128 := (i 1).isLt
  exact nN_of x0 x1 x2 x3 x4 x5 (i 0) (1792 + (i 1).val) (by omega)

/-- Chunk 15 of the normalised rows holds columns 1920 to 2047. -/
theorem v407_eq : kernelRun0_A.sl.v407 c arg1 harg1 arg2 harg2 arg3 harg3 arg4 harg4 arg5 harg5 arg6 harg6 arg7 x0 x1 x2 x3 x4 x5 = fun i => nN x0 x1 x2 x3 x4 x5 (i 0) (1920 + (i 1).val) := by
  funext i
  simp only [kernelRun0_A.sl.v407, kernelRun0_A.sl.v403, kernelRun0_A.sl.v401, kernelRun0_A.sl.v400, kernelRun0_A.sl.v237, kernelRun0_A.sl.v406, kernelRun0_A.sl.v405, v399_eq, v232_eq, View.readAt_eq_ld, harg6.read_unread]
  pointwise
  have hi : (i 1).val < 128 := (i 1).isLt
  exact nN_of x0 x1 x2 x3 x4 x5 (i 0) (1920 + (i 1).val) (by omega)

/-- Chunk 16 of the normalised rows holds columns 2048 to 2175. -/
theorem v418_eq : kernelRun0_A.sl.v418 c arg1 harg1 arg2 harg2 arg3 harg3 arg4 harg4 arg5 harg5 arg6 harg6 arg7 x0 x1 x2 x3 x4 x5 = fun i => nN x0 x1 x2 x3 x4 x5 (i 0) (2048 + (i 1).val) := by
  funext i
  simp only [kernelRun0_A.sl.v418, kernelRun0_A.sl.v414, kernelRun0_A.sl.v412, kernelRun0_A.sl.v411, kernelRun0_A.sl.v237, kernelRun0_A.sl.v417, kernelRun0_A.sl.v416, v410_eq, v232_eq, View.readAt_eq_ld, harg6.read_unread]
  pointwise
  have hi : (i 1).val < 128 := (i 1).isLt
  exact nN_of x0 x1 x2 x3 x4 x5 (i 0) (2048 + (i 1).val) (by omega)

/-- Chunk 17 of the normalised rows holds columns 2176 to 2303. -/
theorem v429_eq : kernelRun0_A.sl.v429 c arg1 harg1 arg2 harg2 arg3 harg3 arg4 harg4 arg5 harg5 arg6 harg6 arg7 x0 x1 x2 x3 x4 x5 = fun i => nN x0 x1 x2 x3 x4 x5 (i 0) (2176 + (i 1).val) := by
  funext i
  simp only [kernelRun0_A.sl.v429, kernelRun0_A.sl.v425, kernelRun0_A.sl.v423, kernelRun0_A.sl.v422, kernelRun0_A.sl.v237, kernelRun0_A.sl.v428, kernelRun0_A.sl.v427, v421_eq, v232_eq, View.readAt_eq_ld, harg6.read_unread]
  pointwise
  have hi : (i 1).val < 128 := (i 1).isLt
  exact nN_of x0 x1 x2 x3 x4 x5 (i 0) (2176 + (i 1).val) (by omega)

/-- Chunk 18 of the normalised rows holds columns 2304 to 2431. -/
theorem v440_eq : kernelRun0_A.sl.v440 c arg1 harg1 arg2 harg2 arg3 harg3 arg4 harg4 arg5 harg5 arg6 harg6 arg7 x0 x1 x2 x3 x4 x5 = fun i => nN x0 x1 x2 x3 x4 x5 (i 0) (2304 + (i 1).val) := by
  funext i
  simp only [kernelRun0_A.sl.v440, kernelRun0_A.sl.v436, kernelRun0_A.sl.v434, kernelRun0_A.sl.v433, kernelRun0_A.sl.v237, kernelRun0_A.sl.v439, kernelRun0_A.sl.v438, v432_eq, v232_eq, View.readAt_eq_ld, harg6.read_unread]
  pointwise
  have hi : (i 1).val < 128 := (i 1).isLt
  exact nN_of x0 x1 x2 x3 x4 x5 (i 0) (2304 + (i 1).val) (by omega)

/-- Chunk 19 of the normalised rows holds columns 2432 to 2559. -/
theorem v451_eq : kernelRun0_A.sl.v451 c arg1 harg1 arg2 harg2 arg3 harg3 arg4 harg4 arg5 harg5 arg6 harg6 arg7 x0 x1 x2 x3 x4 x5 = fun i => nN x0 x1 x2 x3 x4 x5 (i 0) (2432 + (i 1).val) := by
  funext i
  simp only [kernelRun0_A.sl.v451, kernelRun0_A.sl.v447, kernelRun0_A.sl.v445, kernelRun0_A.sl.v444, kernelRun0_A.sl.v237, kernelRun0_A.sl.v450, kernelRun0_A.sl.v449, v443_eq, v232_eq, View.readAt_eq_ld, harg6.read_unread]
  pointwise
  have hi : (i 1).val < 128 := (i 1).isLt
  exact nN_of x0 x1 x2 x3 x4 x5 (i 0) (2432 + (i 1).val) (by omega)

/-- Chunk 14 of the normalised rows holds columns 1792 to 1919. -/
theorem v777_eq : kernelRun0_A.sl.v777 c arg1 harg1 arg2 harg2 arg3 harg3 arg4 harg4 arg5 harg5 arg6 harg6 arg7 x0 x1 x2 x3 x4 x5 = fun i => nN x0 x1 x2 x3 x4 x5 (i 0) (1792 + (i 1).val) := by
  funext i
  simp only [kernelRun0_A.sl.v777, kernelRun0_A.sl.v392, kernelRun0_A.sl.v390, kernelRun0_A.sl.v389, kernelRun0_A.sl.v237, kernelRun0_A.sl.v776, kernelRun0_A.sl.v775, kernelRun0_A.sl.r_2, v388_eq, v232_eq, View.readAt_eq_ld, harg6.read_unread]
  pointwise
  have hi : (i 1).val < 128 := (i 1).isLt
  exact nN_of x0 x1 x2 x3 x4 x5 (i 0) (1792 + (i 1).val) (by omega)

/-- The largest magnitude by lane after chunk 0. -/
theorem v244_eq : kernelRun0_A.sl.v244 c arg1 harg1 arg2 harg2 arg3 harg3 arg4 harg4 arg5 harg5 arg6 harg6 arg7 x0 x1 x2 x3 x4 x5 = fun i => runMax (nN x0 x1 x2 x3 x4 x5 (i 0)) (i 1).val 1 := by
  funext i
  simp only [kernelRun0_A.sl.v244, kernelRun0_A.sl.v243, kernelRun0_A.sl.v5, kernelRun0_A.sl.cst, v242_eq]
  show max (Ideal.ofBits .f32 0#32) (max (nN x0 x1 x2 x3 x4 x5 (i 0) (0 + (i 1).val)) (-nN x0 x1 x2 x3 x4 x5 (i 0) (0 + (i 1).val))) = _
  rw [zeroBits]
  rfl

/-- The largest magnitude by lane after chunk 1. -/
theorem v255_eq : kernelRun0_A.sl.v255 c arg1 harg1 arg2 harg2 arg3 harg3 arg4 harg4 arg5 harg5 arg6 harg6 arg7 x0 x1 x2 x3 x4 x5 = fun i => runMax (nN x0 x1 x2 x3 x4 x5 (i 0)) (i 1).val 2 := by
  funext i
  simp only [kernelRun0_A.sl.v255, kernelRun0_A.sl.v254, v244_eq, v253_eq]
  show max (runMax (nN x0 x1 x2 x3 x4 x5 (i 0)) (i 1).val 1) (max (nN x0 x1 x2 x3 x4 x5 (i 0) (128 + (i 1).val)) (-nN x0 x1 x2 x3 x4 x5 (i 0) (128 + (i 1).val))) = _
  rfl

/-- The largest magnitude by lane after chunk 2. -/
theorem v266_eq : kernelRun0_A.sl.v266 c arg1 harg1 arg2 harg2 arg3 harg3 arg4 harg4 arg5 harg5 arg6 harg6 arg7 x0 x1 x2 x3 x4 x5 = fun i => runMax (nN x0 x1 x2 x3 x4 x5 (i 0)) (i 1).val 3 := by
  funext i
  simp only [kernelRun0_A.sl.v266, kernelRun0_A.sl.v265, v255_eq, v264_eq]
  show max (runMax (nN x0 x1 x2 x3 x4 x5 (i 0)) (i 1).val 2) (max (nN x0 x1 x2 x3 x4 x5 (i 0) (256 + (i 1).val)) (-nN x0 x1 x2 x3 x4 x5 (i 0) (256 + (i 1).val))) = _
  rfl

/-- The largest magnitude by lane after chunk 3. -/
theorem v277_eq : kernelRun0_A.sl.v277 c arg1 harg1 arg2 harg2 arg3 harg3 arg4 harg4 arg5 harg5 arg6 harg6 arg7 x0 x1 x2 x3 x4 x5 = fun i => runMax (nN x0 x1 x2 x3 x4 x5 (i 0)) (i 1).val 4 := by
  funext i
  simp only [kernelRun0_A.sl.v277, kernelRun0_A.sl.v276, v266_eq, v275_eq]
  show max (runMax (nN x0 x1 x2 x3 x4 x5 (i 0)) (i 1).val 3) (max (nN x0 x1 x2 x3 x4 x5 (i 0) (384 + (i 1).val)) (-nN x0 x1 x2 x3 x4 x5 (i 0) (384 + (i 1).val))) = _
  rfl

/-- The largest magnitude by lane after chunk 4. -/
theorem v288_eq : kernelRun0_A.sl.v288 c arg1 harg1 arg2 harg2 arg3 harg3 arg4 harg4 arg5 harg5 arg6 harg6 arg7 x0 x1 x2 x3 x4 x5 = fun i => runMax (nN x0 x1 x2 x3 x4 x5 (i 0)) (i 1).val 5 := by
  funext i
  simp only [kernelRun0_A.sl.v288, kernelRun0_A.sl.v287, v277_eq, v286_eq]
  show max (runMax (nN x0 x1 x2 x3 x4 x5 (i 0)) (i 1).val 4) (max (nN x0 x1 x2 x3 x4 x5 (i 0) (512 + (i 1).val)) (-nN x0 x1 x2 x3 x4 x5 (i 0) (512 + (i 1).val))) = _
  rfl

/-- The largest magnitude by lane after chunk 5. -/
theorem v299_eq : kernelRun0_A.sl.v299 c arg1 harg1 arg2 harg2 arg3 harg3 arg4 harg4 arg5 harg5 arg6 harg6 arg7 x0 x1 x2 x3 x4 x5 = fun i => runMax (nN x0 x1 x2 x3 x4 x5 (i 0)) (i 1).val 6 := by
  funext i
  simp only [kernelRun0_A.sl.v299, kernelRun0_A.sl.v298, v288_eq, v297_eq]
  show max (runMax (nN x0 x1 x2 x3 x4 x5 (i 0)) (i 1).val 5) (max (nN x0 x1 x2 x3 x4 x5 (i 0) (640 + (i 1).val)) (-nN x0 x1 x2 x3 x4 x5 (i 0) (640 + (i 1).val))) = _
  rfl

/-- The largest magnitude by lane after chunk 6. -/
theorem v310_eq : kernelRun0_A.sl.v310 c arg1 harg1 arg2 harg2 arg3 harg3 arg4 harg4 arg5 harg5 arg6 harg6 arg7 x0 x1 x2 x3 x4 x5 = fun i => runMax (nN x0 x1 x2 x3 x4 x5 (i 0)) (i 1).val 7 := by
  funext i
  simp only [kernelRun0_A.sl.v310, kernelRun0_A.sl.v309, v299_eq, v308_eq]
  show max (runMax (nN x0 x1 x2 x3 x4 x5 (i 0)) (i 1).val 6) (max (nN x0 x1 x2 x3 x4 x5 (i 0) (768 + (i 1).val)) (-nN x0 x1 x2 x3 x4 x5 (i 0) (768 + (i 1).val))) = _
  rfl

/-- The largest magnitude by lane after chunk 7. -/
theorem v321_eq : kernelRun0_A.sl.v321 c arg1 harg1 arg2 harg2 arg3 harg3 arg4 harg4 arg5 harg5 arg6 harg6 arg7 x0 x1 x2 x3 x4 x5 = fun i => runMax (nN x0 x1 x2 x3 x4 x5 (i 0)) (i 1).val 8 := by
  funext i
  simp only [kernelRun0_A.sl.v321, kernelRun0_A.sl.v320, v310_eq, v319_eq]
  show max (runMax (nN x0 x1 x2 x3 x4 x5 (i 0)) (i 1).val 7) (max (nN x0 x1 x2 x3 x4 x5 (i 0) (896 + (i 1).val)) (-nN x0 x1 x2 x3 x4 x5 (i 0) (896 + (i 1).val))) = _
  rfl

/-- The largest magnitude by lane after chunk 8. -/
theorem v332_eq : kernelRun0_A.sl.v332 c arg1 harg1 arg2 harg2 arg3 harg3 arg4 harg4 arg5 harg5 arg6 harg6 arg7 x0 x1 x2 x3 x4 x5 = fun i => runMax (nN x0 x1 x2 x3 x4 x5 (i 0)) (i 1).val 9 := by
  funext i
  simp only [kernelRun0_A.sl.v332, kernelRun0_A.sl.v331, v321_eq, v330_eq]
  show max (runMax (nN x0 x1 x2 x3 x4 x5 (i 0)) (i 1).val 8) (max (nN x0 x1 x2 x3 x4 x5 (i 0) (1024 + (i 1).val)) (-nN x0 x1 x2 x3 x4 x5 (i 0) (1024 + (i 1).val))) = _
  rfl

/-- The largest magnitude by lane after chunk 9. -/
theorem v343_eq : kernelRun0_A.sl.v343 c arg1 harg1 arg2 harg2 arg3 harg3 arg4 harg4 arg5 harg5 arg6 harg6 arg7 x0 x1 x2 x3 x4 x5 = fun i => runMax (nN x0 x1 x2 x3 x4 x5 (i 0)) (i 1).val 10 := by
  funext i
  simp only [kernelRun0_A.sl.v343, kernelRun0_A.sl.v342, v332_eq, v341_eq]
  show max (runMax (nN x0 x1 x2 x3 x4 x5 (i 0)) (i 1).val 9) (max (nN x0 x1 x2 x3 x4 x5 (i 0) (1152 + (i 1).val)) (-nN x0 x1 x2 x3 x4 x5 (i 0) (1152 + (i 1).val))) = _
  rfl

/-- The largest magnitude by lane after chunk 10. -/
theorem v354_eq : kernelRun0_A.sl.v354 c arg1 harg1 arg2 harg2 arg3 harg3 arg4 harg4 arg5 harg5 arg6 harg6 arg7 x0 x1 x2 x3 x4 x5 = fun i => runMax (nN x0 x1 x2 x3 x4 x5 (i 0)) (i 1).val 11 := by
  funext i
  simp only [kernelRun0_A.sl.v354, kernelRun0_A.sl.v353, v343_eq, v352_eq]
  show max (runMax (nN x0 x1 x2 x3 x4 x5 (i 0)) (i 1).val 10) (max (nN x0 x1 x2 x3 x4 x5 (i 0) (1280 + (i 1).val)) (-nN x0 x1 x2 x3 x4 x5 (i 0) (1280 + (i 1).val))) = _
  rfl

/-- The largest magnitude by lane after chunk 11. -/
theorem v365_eq : kernelRun0_A.sl.v365 c arg1 harg1 arg2 harg2 arg3 harg3 arg4 harg4 arg5 harg5 arg6 harg6 arg7 x0 x1 x2 x3 x4 x5 = fun i => runMax (nN x0 x1 x2 x3 x4 x5 (i 0)) (i 1).val 12 := by
  funext i
  simp only [kernelRun0_A.sl.v365, kernelRun0_A.sl.v364, v354_eq, v363_eq]
  show max (runMax (nN x0 x1 x2 x3 x4 x5 (i 0)) (i 1).val 11) (max (nN x0 x1 x2 x3 x4 x5 (i 0) (1408 + (i 1).val)) (-nN x0 x1 x2 x3 x4 x5 (i 0) (1408 + (i 1).val))) = _
  rfl

/-- The largest magnitude by lane after chunk 12. -/
theorem v376_eq : kernelRun0_A.sl.v376 c arg1 harg1 arg2 harg2 arg3 harg3 arg4 harg4 arg5 harg5 arg6 harg6 arg7 x0 x1 x2 x3 x4 x5 = fun i => runMax (nN x0 x1 x2 x3 x4 x5 (i 0)) (i 1).val 13 := by
  funext i
  simp only [kernelRun0_A.sl.v376, kernelRun0_A.sl.v375, v365_eq, v374_eq]
  show max (runMax (nN x0 x1 x2 x3 x4 x5 (i 0)) (i 1).val 12) (max (nN x0 x1 x2 x3 x4 x5 (i 0) (1536 + (i 1).val)) (-nN x0 x1 x2 x3 x4 x5 (i 0) (1536 + (i 1).val))) = _
  rfl

/-- The largest magnitude by lane after chunk 13. -/
theorem v387_eq : kernelRun0_A.sl.v387 c arg1 harg1 arg2 harg2 arg3 harg3 arg4 harg4 arg5 harg5 arg6 harg6 arg7 x0 x1 x2 x3 x4 x5 = fun i => runMax (nN x0 x1 x2 x3 x4 x5 (i 0)) (i 1).val 14 := by
  funext i
  simp only [kernelRun0_A.sl.v387, kernelRun0_A.sl.v386, v376_eq, v385_eq]
  show max (runMax (nN x0 x1 x2 x3 x4 x5 (i 0)) (i 1).val 13) (max (nN x0 x1 x2 x3 x4 x5 (i 0) (1664 + (i 1).val)) (-nN x0 x1 x2 x3 x4 x5 (i 0) (1664 + (i 1).val))) = _
  rfl

/-- The largest magnitude by lane after chunk 14. -/
theorem v398_eq : kernelRun0_A.sl.v398 c arg1 harg1 arg2 harg2 arg3 harg3 arg4 harg4 arg5 harg5 arg6 harg6 arg7 x0 x1 x2 x3 x4 x5 = fun i => runMax (nN x0 x1 x2 x3 x4 x5 (i 0)) (i 1).val 15 := by
  funext i
  simp only [kernelRun0_A.sl.v398, kernelRun0_A.sl.v397, v387_eq, v396_eq]
  show max (runMax (nN x0 x1 x2 x3 x4 x5 (i 0)) (i 1).val 14) (max (nN x0 x1 x2 x3 x4 x5 (i 0) (1792 + (i 1).val)) (-nN x0 x1 x2 x3 x4 x5 (i 0) (1792 + (i 1).val))) = _
  rfl

/-- The largest magnitude by lane after chunk 15. -/
theorem v409_eq : kernelRun0_A.sl.v409 c arg1 harg1 arg2 harg2 arg3 harg3 arg4 harg4 arg5 harg5 arg6 harg6 arg7 x0 x1 x2 x3 x4 x5 = fun i => runMax (nN x0 x1 x2 x3 x4 x5 (i 0)) (i 1).val 16 := by
  funext i
  simp only [kernelRun0_A.sl.v409, kernelRun0_A.sl.v408, v398_eq, v407_eq]
  show max (runMax (nN x0 x1 x2 x3 x4 x5 (i 0)) (i 1).val 15) (max (nN x0 x1 x2 x3 x4 x5 (i 0) (1920 + (i 1).val)) (-nN x0 x1 x2 x3 x4 x5 (i 0) (1920 + (i 1).val))) = _
  rfl

/-- The largest magnitude by lane after chunk 16. -/
theorem v420_eq : kernelRun0_A.sl.v420 c arg1 harg1 arg2 harg2 arg3 harg3 arg4 harg4 arg5 harg5 arg6 harg6 arg7 x0 x1 x2 x3 x4 x5 = fun i => runMax (nN x0 x1 x2 x3 x4 x5 (i 0)) (i 1).val 17 := by
  funext i
  simp only [kernelRun0_A.sl.v420, kernelRun0_A.sl.v419, v409_eq, v418_eq]
  show max (runMax (nN x0 x1 x2 x3 x4 x5 (i 0)) (i 1).val 16) (max (nN x0 x1 x2 x3 x4 x5 (i 0) (2048 + (i 1).val)) (-nN x0 x1 x2 x3 x4 x5 (i 0) (2048 + (i 1).val))) = _
  rfl

/-- The largest magnitude by lane after chunk 17. -/
theorem v431_eq : kernelRun0_A.sl.v431 c arg1 harg1 arg2 harg2 arg3 harg3 arg4 harg4 arg5 harg5 arg6 harg6 arg7 x0 x1 x2 x3 x4 x5 = fun i => runMax (nN x0 x1 x2 x3 x4 x5 (i 0)) (i 1).val 18 := by
  funext i
  simp only [kernelRun0_A.sl.v431, kernelRun0_A.sl.v430, v420_eq, v429_eq]
  show max (runMax (nN x0 x1 x2 x3 x4 x5 (i 0)) (i 1).val 17) (max (nN x0 x1 x2 x3 x4 x5 (i 0) (2176 + (i 1).val)) (-nN x0 x1 x2 x3 x4 x5 (i 0) (2176 + (i 1).val))) = _
  rfl

/-- The largest magnitude by lane after chunk 18. -/
theorem v442_eq : kernelRun0_A.sl.v442 c arg1 harg1 arg2 harg2 arg3 harg3 arg4 harg4 arg5 harg5 arg6 harg6 arg7 x0 x1 x2 x3 x4 x5 = fun i => runMax (nN x0 x1 x2 x3 x4 x5 (i 0)) (i 1).val 19 := by
  funext i
  simp only [kernelRun0_A.sl.v442, kernelRun0_A.sl.v441, v431_eq, v440_eq]
  show max (runMax (nN x0 x1 x2 x3 x4 x5 (i 0)) (i 1).val 18) (max (nN x0 x1 x2 x3 x4 x5 (i 0) (2304 + (i 1).val)) (-nN x0 x1 x2 x3 x4 x5 (i 0) (2304 + (i 1).val))) = _
  rfl

/-- The largest magnitude by lane after chunk 19. -/
theorem v453_eq : kernelRun0_A.sl.v453 c arg1 harg1 arg2 harg2 arg3 harg3 arg4 harg4 arg5 harg5 arg6 harg6 arg7 x0 x1 x2 x3 x4 x5 = fun i => runMax (nN x0 x1 x2 x3 x4 x5 (i 0)) (i 1).val 20 := by
  funext i
  simp only [kernelRun0_A.sl.v453, kernelRun0_A.sl.v452, v442_eq, v451_eq]
  show max (runMax (nN x0 x1 x2 x3 x4 x5 (i 0)) (i 1).val 19) (max (nN x0 x1 x2 x3 x4 x5 (i 0) (2432 + (i 1).val)) (-nN x0 x1 x2 x3 x4 x5 (i 0) (2432 + (i 1).val))) = _
  rfl

/-- The largest magnitude of the row over 448. -/
theorem v457_eq : kernelRun0_A.sl.v457 c arg1 harg1 arg2 harg2 arg3 harg3 arg4 harg4 arg5 harg5 arg6 harg6 arg7 x0 x1 x2 x3 x4 x5 = fun i => qRow (hB x0 x1 x2 x3 x4 (i 0)) (gB x5) := by
  funext i
  simp only [kernelRun0_A.sl.v457, kernelRun0_A.sl.v456, kernelRun0_A.sl.cst_178, kernelRun0_A.sl.v455, kernelRun0_A.sl.v454, v453_eq]
  pointwise
  refine congrArg₂ _ ?_ rfl
  rw [max_lanes (nN x0 x1 x2 x3 x4 x5 (i 0)) _ botBits]
  refine congrArg (fun f => Finset.univ.fold max _ f) (funext fun n => ?_)
  rw [nN_eq x0 x1 x2 x3 x4 x5 (i 0) n.val n.isLt]

end Cert.Proj
end
-- ==== Proof.Codes.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.Norm

/-! The search for the exponent field, the two powers of two, and the chunks of code words. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (x5 : Vec Ideal S1x2560 .f32)
variable (c : Dev nD) (arg1 : Memref sig .tc .vmem S1x1x512 .f32) (harg1 : arg1.IsWhole) (arg2 : Memref sig .tc .vmem S512x5120 .fp8e4m3) (harg2 : arg2.IsWhole) (arg3 : Memref sig .tc .vmem S5120x2560 .fp8e4m3) (harg3 : arg3.IsWhole) (arg4 : Memref sig .tc .vmem S1x2560 .f32) (harg4 : arg4.IsWhole) (arg5 : Memref sig .tc .vmem S512x2560 .bf16) (harg5 : arg5.IsWhole)
variable (arg6 : Memref sig .tc .vmem S1x2560 .f32) (harg6 : arg6.IsWhole) (arg7 : Memref sig .tc .vmem S512x2560 .bf16)

/-- One step of the search, element by element. -/
theorem step_vec (q : FVec Ideal S512x1 .f32) (f b : IVec S512x1 32) (i : S512x1.Idx) :
    select (cmpf .oge q (bitcastToFloat .f32 (shli (addi f b) (broadcast S512x1 23#32)))) (addi f b) f i = stepF (q i) (b i) (f i) := rfl

/-- The field after the step of 128. -/
theorem v465_eq : kernelRun0_A.sl.v465 c arg1 harg1 arg2 harg2 arg3 harg3 arg4 harg4 arg5 harg5 arg6 harg6 arg7 x0 x1 x2 x3 x4 x5 = fun i => (stepF (qRow (hB x0 x1 x2 x3 x4 (i 0)) (gB x5)) 128#32 0#32) := by
  funext i
  simp only [kernelRun0_A.sl.v465, kernelRun0_A.sl.v464, kernelRun0_A.sl.v462, kernelRun0_A.sl.v458, kernelRun0_A.sl.v459, kernelRun0_A.sl.v461, v457_eq]
  exact step_vec _ _ _ i

/-- The field after the step of 64. -/
theorem v472_eq : kernelRun0_A.sl.v472 c arg1 harg1 arg2 harg2 arg3 harg3 arg4 harg4 arg5 harg5 arg6 harg6 arg7 x0 x1 x2 x3 x4 x5 = fun i => (stepF (qRow (hB x0 x1 x2 x3 x4 (i 0)) (gB x5)) 64#32 (stepF (qRow (hB x0 x1 x2 x3 x4 (i 0)) (gB x5)) 128#32 0#32)) := by
  funext i
  simp only [kernelRun0_A.sl.v472, kernelRun0_A.sl.v471, kernelRun0_A.sl.v470, kernelRun0_A.sl.v469, kernelRun0_A.sl.v467, kernelRun0_A.sl.v466, kernelRun0_A.sl.v461, v457_eq, v465_eq]
  exact step_vec _ _ _ i

/-- The field after the step of 32. -/
theorem v479_eq : kernelRun0_A.sl.v479 c arg1 harg1 arg2 harg2 arg3 harg3 arg4 harg4 arg5 harg5 arg6 harg6 arg7 x0 x1 x2 x3 x4 x5 = fun i => (stepF (qRow (hB x0 x1 x2 x3 x4 (i 0)) (gB x5)) 32#32 (stepF (qRow (hB x0 x1 x2 x3 x4 (i 0)) (gB x5)) 64#32 (stepF (qRow (hB x0 x1 x2 x3 x4 (i 0)) (gB x5)) 128#32 0#32))) := by
  funext i
  simp only [kernelRun0_A.sl.v479, kernelRun0_A.sl.v478, kernelRun0_A.sl.v477, kernelRun0_A.sl.v476, kernelRun0_A.sl.v474, kernelRun0_A.sl.v473, kernelRun0_A.sl.v461, v457_eq, v472_eq]
  exact step_vec _ _ _ i

/-- The field after the step of 16. -/
theorem v486_eq : kernelRun0_A.sl.v486 c arg1 harg1 arg2 harg2 arg3 harg3 arg4 harg4 arg5 harg5 arg6 harg6 arg7 x0 x1 x2 x3 x4 x5 = fun i => (stepF (qRow (hB x0 x1 x2 x3 x4 (i 0)) (gB x5)) 16#32 (stepF (qRow (hB x0 x1 x2 x3 x4 (i 0)) (gB x5)) 32#32 (stepF (qRow (hB x0 x1 x2 x3 x4 (i 0)) (gB x5)) 64#32 (stepF (qRow (hB x0 x1 x2 x3 x4 (i 0)) (gB x5)) 128#32 0#32)))) := by
  funext i
  simp only [kernelRun0_A.sl.v486, kernelRun0_A.sl.v485, kernelRun0_A.sl.v484, kernelRun0_A.sl.v483, kernelRun0_A.sl.v481, kernelRun0_A.sl.v480, kernelRun0_A.sl.v461, v457_eq, v479_eq]
  exact step_vec _ _ _ i

/-- The field after the step of 8. -/
theorem v493_eq : kernelRun0_A.sl.v493 c arg1 harg1 arg2 harg2 arg3 harg3 arg4 harg4 arg5 harg5 arg6 harg6 arg7 x0 x1 x2 x3 x4 x5 = fun i => (stepF (qRow (hB x0 x1 x2 x3 x4 (i 0)) (gB x5)) 8#32 (stepF (qRow (hB x0 x1 x2 x3 x4 (i 0)) (gB x5)) 16#32 (stepF (qRow (hB x0 x1 x2 x3 x4 (i 0)) (gB x5)) 32#32 (stepF (qRow (hB x0 x1 x2 x3 x4 (i 0)) (gB x5)) 64#32 (stepF (qRow (hB x0 x1 x2 x3 x4 (i 0)) (gB x5)) 128#32 0#32))))) := by
  funext i
  simp only [kernelRun0_A.sl.v493, kernelRun0_A.sl.v492, kernelRun0_A.sl.v491, kernelRun0_A.sl.v490, kernelRun0_A.sl.v488, kernelRun0_A.sl.v487, kernelRun0_A.sl.v461, v457_eq, v486_eq]
  exact step_vec _ _ _ i

/-- The field after the step of 4. -/
theorem v500_eq : kernelRun0_A.sl.v500 c arg1 harg1 arg2 harg2 arg3 harg3 arg4 harg4 arg5 harg5 arg6 harg6 arg7 x0 x1 x2 x3 x4 x5 = fun i => (stepF (qRow (hB x0 x1 x2 x3 x4 (i 0)) (gB x5)) 4#32 (stepF (qRow (hB x0 x1 x2 x3 x4 (i 0)) (gB x5)) 8#32 (stepF (qRow (hB x0 x1 x2 x3 x4 (i 0)) (gB x5)) 16#32 (stepF (qRow (hB x0 x1 x2 x3 x4 (i 0)) (gB x5)) 32#32 (stepF (qRow (hB x0 x1 x2 x3 x4 (i 0)) (gB x5)) 64#32 (stepF (qRow (hB x0 x1 x2 x3 x4 (i 0)) (gB x5)) 128#32 0#32)))))) := by
  funext i
  simp only [kernelRun0_A.sl.v500, kernelRun0_A.sl.v499, kernelRun0_A.sl.v498, kernelRun0_A.sl.v497, kernelRun0_A.sl.v495, kernelRun0_A.sl.v494, kernelRun0_A.sl.v461, v457_eq, v493_eq]
  exact step_vec _ _ _ i

/-- The field after the step of 2. -/
theorem v507_eq : kernelRun0_A.sl.v507 c arg1 harg1 arg2 harg2 arg3 harg3 arg4 harg4 arg5 harg5 arg6 harg6 arg7 x0 x1 x2 x3 x4 x5 = fun i => (stepF (qRow (hB x0 x1 x2 x3 x4 (i 0)) (gB x5)) 2#32 (stepF (qRow (hB x0 x1 x2 x3 x4 (i 0)) (gB x5)) 4#32 (stepF (qRow (hB x0 x1 x2 x3 x4 (i 0)) (gB x5)) 8#32 (stepF (qRow (hB x0 x1 x2 x3 x4 (i 0)) (gB x5)) 16#32 (stepF (qRow (hB x0 x1 x2 x3 x4 (i 0)) (gB x5)) 32#32 (stepF (qRow (hB x0 x1 x2 x3 x4 (i 0)) (gB x5)) 64#32 (stepF (qRow (hB x0 x1 x2 x3 x4 (i 0)) (gB x5)) 128#32 0#32))))))) := by
  funext i
  simp only [kernelRun0_A.sl.v507, kernelRun0_A.sl.v506, kernelRun0_A.sl.v505, kernelRun0_A.sl.v504, kernelRun0_A.sl.v502, kernelRun0_A.sl.v501, kernelRun0_A.sl.v461, v457_eq, v500_eq]
  exact step_vec _ _ _ i

/-- The field after the step of 1. -/
theorem v514_eq : kernelRun0_A.sl.v514 c arg1 harg1 arg2 harg2 arg3 harg3 arg4 harg4 arg5 harg5 arg6 harg6 arg7 x0 x1 x2 x3 x4 x5 = fun i => (stepF (qRow (hB x0 x1 x2 x3 x4 (i 0)) (gB x5)) 1#32 (stepF (qRow (hB x0 x1 x2 x3 x4 (i 0)) (gB x5)) 2#32 (stepF (qRow (hB x0 x1 x2 x3 x4 (i 0)) (gB x5)) 4#32 (stepF (qRow (hB x0 x1 x2 x3 x4 (i 0)) (gB x5)) 8#32 (stepF (qRow (hB x0 x1 x2 x3 x4 (i 0)) (gB x5)) 16#32 (stepF (qRow (hB x0 x1 x2 x3 x4 (i 0)) (gB x5)) 32#32 (stepF (qRow (hB x0 x1 x2 x3 x4 (i 0)) (gB x5)) 64#32 (stepF (qRow (hB x0 x1 x2 x3 x4 (i 0)) (gB x5)) 128#32 0#32)))))))) := by
  funext i
  simp only [kernelRun0_A.sl.v514, kernelRun0_A.sl.v513, kernelRun0_A.sl.v512, kernelRun0_A.sl.v511, kernelRun0_A.sl.v509, kernelRun0_A.sl.v508, kernelRun0_A.sl.v461, v457_eq, v507_eq]
  exact step_vec _ _ _ i

/-- The exponent by row. -/
theorem v523_eq : kernelRun0_A.sl.v523 c arg1 harg1 arg2 harg2 arg3 harg3 arg4 harg4 arg5 harg5 arg6 harg6 arg7 x0 x1 x2 x3 x4 x5 = fun i => expBits (fieldOf (qRow (hB x0 x1 x2 x3 x4 (i 0)) (gB x5))) := by
  funext i
  simp only [kernelRun0_A.sl.v523, kernelRun0_A.sl.v521, kernelRun0_A.sl.v518, kernelRun0_A.sl.v458, kernelRun0_A.sl.v520, kernelRun0_A.sl.v519, kernelRun0_A.sl.v516, kernelRun0_A.sl.v515, v514_eq]
  rfl

/-- The power of two for the minus exponent, by row. -/
theorem v530_eq : kernelRun0_A.sl.v530 c arg1 harg1 arg2 harg2 arg3 harg3 arg4 harg4 arg5 harg5 arg6 harg6 arg7 x0 x1 x2 x3 x4 x5 = fun i => kInv (qRow (hB x0 x1 x2 x3 x4 (i 0)) (gB x5)) := by
  funext i
  simp only [kernelRun0_A.sl.v530, kernelRun0_A.sl.v529, kernelRun0_A.sl.v527, kernelRun0_A.sl.v525, kernelRun0_A.sl.v458, kernelRun0_A.sl.v526, kernelRun0_A.sl.v461, v523_eq]
  rfl

/-- The scale, by row. -/
theorem r_3_eq : kernelRun0_A.sl.r_3 c arg1 harg1 arg2 harg2 arg3 harg3 arg4 harg4 arg5 harg5 arg6 harg6 arg7 x0 x1 x2 x3 x4 x5 = fun i => kScale (qRow (hB x0 x1 x2 x3 x4 (i 1)) (gB x5)) := by
  funext i
  simp only [kernelRun0_A.sl.r_3, k0_pay76, v523_eq]
  pointwise
  rfl

/-- Chunk 0 of the code words holds columns 0 to 127. -/
theorem v546_eq : kernelRun0_A.sl.v546 c arg1 harg1 arg2 harg2 arg3 harg3 arg4 harg4 arg5 harg5 arg6 harg6 arg7 x0 x1 x2 x3 x4 x5 = fun i => cN x0 x1 x2 x3 x4 x5 (i 0) (0 + (i 1).val) := by
  funext i
  simp only [kernelRun0_A.sl.v546, kernelRun0_A.sl.v545, kernelRun0_A.sl.v544, kernelRun0_A.sl.cst_195, kernelRun0_A.sl.v543, kernelRun0_A.sl.v542, kernelRun0_A.sl.cst_194, kernelRun0_A.sl.v541, kernelRun0_A.sl.v540, v530_eq, v242_eq]
  pointwise
  rfl

/-- Chunk 1 of the code words holds columns 128 to 255. -/
theorem v563_eq : kernelRun0_A.sl.v563 c arg1 harg1 arg2 harg2 arg3 harg3 arg4 harg4 arg5 harg5 arg6 harg6 arg7 x0 x1 x2 x3 x4 x5 = fun i => cN x0 x1 x2 x3 x4 x5 (i 0) (128 + (i 1).val) := by
  funext i
  simp only [kernelRun0_A.sl.v563, kernelRun0_A.sl.v562, kernelRun0_A.sl.v544, kernelRun0_A.sl.cst_195, kernelRun0_A.sl.v560, kernelRun0_A.sl.v542, kernelRun0_A.sl.cst_194, kernelRun0_A.sl.v558, kernelRun0_A.sl.v540, v530_eq, v253_eq]
  pointwise
  rfl

/-- Chunk 2 of the code words holds columns 256 to 383. -/
theorem v580_eq : kernelRun0_A.sl.v580 c arg1 harg1 arg2 harg2 arg3 harg3 arg4 harg4 arg5 harg5 arg6 harg6 arg7 x0 x1 x2 x3 x4 x5 = fun i => cN x0 x1 x2 x3 x4 x5 (i 0) (256 + (i 1).val) := by
  funext i
  simp only [kernelRun0_A.sl.v580, kernelRun0_A.sl.v579, kernelRun0_A.sl.v544, kernelRun0_A.sl.cst_195, kernelRun0_A.sl.v577, kernelRun0_A.sl.v542, kernelRun0_A.sl.cst_194, kernelRun0_A.sl.v575, kernelRun0_A.sl.v540, v530_eq, v264_eq]
  pointwise
  rfl

/-- Chunk 3 of the code words holds columns 384 to 511. -/
theorem v597_eq : kernelRun0_A.sl.v597 c arg1 harg1 arg2 harg2 arg3 harg3 arg4 harg4 arg5 harg5 arg6 harg6 arg7 x0 x1 x2 x3 x4 x5 = fun i => cN x0 x1 x2 x3 x4 x5 (i 0) (384 + (i 1).val) := by
  funext i
  simp only [kernelRun0_A.sl.v597, kernelRun0_A.sl.v596, kernelRun0_A.sl.v544, kernelRun0_A.sl.cst_195, kernelRun0_A.sl.v594, kernelRun0_A.sl.v542, kernelRun0_A.sl.cst_194, kernelRun0_A.sl.v592, kernelRun0_A.sl.v540, v530_eq, v275_eq]
  pointwise
  rfl

/-- Chunk 4 of the code words holds columns 512 to 639. -/
theorem v614_eq : kernelRun0_A.sl.v614 c arg1 harg1 arg2 harg2 arg3 harg3 arg4 harg4 arg5 harg5 arg6 harg6 arg7 x0 x1 x2 x3 x4 x5 = fun i => cN x0 x1 x2 x3 x4 x5 (i 0) (512 + (i 1).val) := by
  funext i
  simp only [kernelRun0_A.sl.v614, kernelRun0_A.sl.v613, kernelRun0_A.sl.v544, kernelRun0_A.sl.cst_195, kernelRun0_A.sl.v611, kernelRun0_A.sl.v542, kernelRun0_A.sl.cst_194, kernelRun0_A.sl.v609, kernelRun0_A.sl.v540, v530_eq, v286_eq]
  pointwise
  rfl

/-- Chunk 5 of the code words holds columns 640 to 767. -/
theorem v631_eq : kernelRun0_A.sl.v631 c arg1 harg1 arg2 harg2 arg3 harg3 arg4 harg4 arg5 harg5 arg6 harg6 arg7 x0 x1 x2 x3 x4 x5 = fun i => cN x0 x1 x2 x3 x4 x5 (i 0) (640 + (i 1).val) := by
  funext i
  simp only [kernelRun0_A.sl.v631, kernelRun0_A.sl.v630, kernelRun0_A.sl.v544, kernelRun0_A.sl.cst_195, kernelRun0_A.sl.v628, kernelRun0_A.sl.v542, kernelRun0_A.sl.cst_194, kernelRun0_A.sl.v626, kernelRun0_A.sl.v540, v530_eq, v297_eq]
  pointwise
  rfl

/-- Chunk 6 of the code words holds columns 768 to 895. -/
theorem v648_eq : kernelRun0_A.sl.v648 c arg1 harg1 arg2 harg2 arg3 harg3 arg4 harg4 arg5 harg5 arg6 harg6 arg7 x0 x1 x2 x3 x4 x5 = fun i => cN x0 x1 x2 x3 x4 x5 (i 0) (768 + (i 1).val) := by
  funext i
  simp only [kernelRun0_A.sl.v648, kernelRun0_A.sl.v647, kernelRun0_A.sl.v544, kernelRun0_A.sl.cst_195, kernelRun0_A.sl.v645, kernelRun0_A.sl.v542, kernelRun0_A.sl.cst_194, kernelRun0_A.sl.v643, kernelRun0_A.sl.v540, v530_eq, v308_eq]
  pointwise
  rfl

/-- Chunk 7 of the code words holds columns 896 to 1023. -/
theorem v665_eq : kernelRun0_A.sl.v665 c arg1 harg1 arg2 harg2 arg3 harg3 arg4 harg4 arg5 harg5 arg6 harg6 arg7 x0 x1 x2 x3 x4 x5 = fun i => cN x0 x1 x2 x3 x4 x5 (i 0) (896 + (i 1).val) := by
  funext i
  simp only [kernelRun0_A.sl.v665, kernelRun0_A.sl.v664, kernelRun0_A.sl.v544, kernelRun0_A.sl.cst_195, kernelRun0_A.sl.v662, kernelRun0_A.sl.v542, kernelRun0_A.sl.cst_194, kernelRun0_A.sl.v660, kernelRun0_A.sl.v540, v530_eq, v319_eq]
  pointwise
  rfl

/-- Chunk 8 of the code words holds columns 1024 to 1151. -/
theorem v682_eq : kernelRun0_A.sl.v682 c arg1 harg1 arg2 harg2 arg3 harg3 arg4 harg4 arg5 harg5 arg6 harg6 arg7 x0 x1 x2 x3 x4 x5 = fun i => cN x0 x1 x2 x3 x4 x5 (i 0) (1024 + (i 1).val) := by
  funext i
  simp only [kernelRun0_A.sl.v682, kernelRun0_A.sl.v681, kernelRun0_A.sl.v544, kernelRun0_A.sl.cst_195, kernelRun0_A.sl.v679, kernelRun0_A.sl.v542, kernelRun0_A.sl.cst_194, kernelRun0_A.sl.v677, kernelRun0_A.sl.v540, v530_eq, v330_eq]
  pointwise
  rfl

/-- Chunk 9 of the code words holds columns 1152 to 1279. -/
theorem v699_eq : kernelRun0_A.sl.v699 c arg1 harg1 arg2 harg2 arg3 harg3 arg4 harg4 arg5 harg5 arg6 harg6 arg7 x0 x1 x2 x3 x4 x5 = fun i => cN x0 x1 x2 x3 x4 x5 (i 0) (1152 + (i 1).val) := by
  funext i
  simp only [kernelRun0_A.sl.v699, kernelRun0_A.sl.v698, kernelRun0_A.sl.v544, kernelRun0_A.sl.cst_195, kernelRun0_A.sl.v696, kernelRun0_A.sl.v542, kernelRun0_A.sl.cst_194, kernelRun0_A.sl.v694, kernelRun0_A.sl.v540, v530_eq, v341_eq]
  pointwise
  rfl

/-- Chunk 10 of the code words holds columns 1280 to 1407. -/
theorem v716_eq : kernelRun0_A.sl.v716 c arg1 harg1 arg2 harg2 arg3 harg3 arg4 harg4 arg5 harg5 arg6 harg6 arg7 x0 x1 x2 x3 x4 x5 = fun i => cN x0 x1 x2 x3 x4 x5 (i 0) (1280 + (i 1).val) := by
  funext i
  simp only [kernelRun0_A.sl.v716, kernelRun0_A.sl.v715, kernelRun0_A.sl.v544, kernelRun0_A.sl.cst_195, kernelRun0_A.sl.v713, kernelRun0_A.sl.v542, kernelRun0_A.sl.cst_194, kernelRun0_A.sl.v711, kernelRun0_A.sl.v540, v530_eq, v352_eq]
  pointwise
  rfl

/-- Chunk 11 of the code words holds columns 1408 to 1535. -/
theorem v733_eq : kernelRun0_A.sl.v733 c arg1 harg1 arg2 harg2 arg3 harg3 arg4 harg4 arg5 harg5 arg6 harg6 arg7 x0 x1 x2 x3 x4 x5 = fun i => cN x0 x1 x2 x3 x4 x5 (i 0) (1408 + (i 1).val) := by
  funext i
  simp only [kernelRun0_A.sl.v733, kernelRun0_A.sl.v732, kernelRun0_A.sl.v544, kernelRun0_A.sl.cst_195, kernelRun0_A.sl.v730, kernelRun0_A.sl.v542, kernelRun0_A.sl.cst_194, kernelRun0_A.sl.v728, kernelRun0_A.sl.v540, v530_eq, v363_eq]
  pointwise
  rfl

/-- Chunk 12 of the code words holds columns 1536 to 1663. -/
theorem v750_eq : kernelRun0_A.sl.v750 c arg1 harg1 arg2 harg2 arg3 harg3 arg4 harg4 arg5 harg5 arg6 harg6 arg7 x0 x1 x2 x3 x4 x5 = fun i => cN x0 x1 x2 x3 x4 x5 (i 0) (1536 + (i 1).val) := by
  funext i
  simp only [kernelRun0_A.sl.v750, kernelRun0_A.sl.v749, kernelRun0_A.sl.v544, kernelRun0_A.sl.cst_195, kernelRun0_A.sl.v747, kernelRun0_A.sl.v542, kernelRun0_A.sl.cst_194, kernelRun0_A.sl.v745, kernelRun0_A.sl.v540, v530_eq, v374_eq]
  pointwise
  rfl

/-- Chunk 13 of the code words holds columns 1664 to 1791. -/
theorem v767_eq : kernelRun0_A.sl.v767 c arg1 harg1 arg2 harg2 arg3 harg3 arg4 harg4 arg5 harg5 arg6 harg6 arg7 x0 x1 x2 x3 x4 x5 = fun i => cN x0 x1 x2 x3 x4 x5 (i 0) (1664 + (i 1).val) := by
  funext i
  simp only [kernelRun0_A.sl.v767, kernelRun0_A.sl.v766, kernelRun0_A.sl.v544, kernelRun0_A.sl.cst_195, kernelRun0_A.sl.v764, kernelRun0_A.sl.v542, kernelRun0_A.sl.cst_194, kernelRun0_A.sl.v762, kernelRun0_A.sl.v540, v530_eq, v385_eq]
  pointwise
  rfl

/-- Chunk 14 of the code words holds columns 1792 to 1919. -/
theorem v784_eq : kernelRun0_A.sl.v784 c arg1 harg1 arg2 harg2 arg3 harg3 arg4 harg4 arg5 harg5 arg6 harg6 arg7 x0 x1 x2 x3 x4 x5 = fun i => cN x0 x1 x2 x3 x4 x5 (i 0) (1792 + (i 1).val) := by
  funext i
  simp only [kernelRun0_A.sl.v784, kernelRun0_A.sl.v783, kernelRun0_A.sl.v544, kernelRun0_A.sl.cst_195, kernelRun0_A.sl.v781, kernelRun0_A.sl.v542, kernelRun0_A.sl.cst_194, kernelRun0_A.sl.v779, kernelRun0_A.sl.v540, v530_eq, v777_eq]
  pointwise
  rfl

/-- Chunk 15 of the code words holds columns 1920 to 2047. -/
theorem v801_eq : kernelRun0_A.sl.v801 c arg1 harg1 arg2 harg2 arg3 harg3 arg4 harg4 arg5 harg5 arg6 harg6 arg7 x0 x1 x2 x3 x4 x5 = fun i => cN x0 x1 x2 x3 x4 x5 (i 0) (1920 + (i 1).val) := by
  funext i
  simp only [kernelRun0_A.sl.v801, kernelRun0_A.sl.v800, kernelRun0_A.sl.v544, kernelRun0_A.sl.cst_195, kernelRun0_A.sl.v798, kernelRun0_A.sl.v542, kernelRun0_A.sl.cst_194, kernelRun0_A.sl.v796, kernelRun0_A.sl.v540, v530_eq, v407_eq]
  pointwise
  rfl

/-- Chunk 16 of the code words holds columns 2048 to 2175. -/
theorem v818_eq : kernelRun0_A.sl.v818 c arg1 harg1 arg2 harg2 arg3 harg3 arg4 harg4 arg5 harg5 arg6 harg6 arg7 x0 x1 x2 x3 x4 x5 = fun i => cN x0 x1 x2 x3 x4 x5 (i 0) (2048 + (i 1).val) := by
  funext i
  simp only [kernelRun0_A.sl.v818, kernelRun0_A.sl.v817, kernelRun0_A.sl.v544, kernelRun0_A.sl.cst_195, kernelRun0_A.sl.v815, kernelRun0_A.sl.v542, kernelRun0_A.sl.cst_194, kernelRun0_A.sl.v813, kernelRun0_A.sl.v540, v530_eq, v418_eq]
  pointwise
  rfl

/-- Chunk 17 of the code words holds columns 2176 to 2303. -/
theorem v835_eq : kernelRun0_A.sl.v835 c arg1 harg1 arg2 harg2 arg3 harg3 arg4 harg4 arg5 harg5 arg6 harg6 arg7 x0 x1 x2 x3 x4 x5 = fun i => cN x0 x1 x2 x3 x4 x5 (i 0) (2176 + (i 1).val) := by
  funext i
  simp only [kernelRun0_A.sl.v835, kernelRun0_A.sl.v834, kernelRun0_A.sl.v544, kernelRun0_A.sl.cst_195, kernelRun0_A.sl.v832, kernelRun0_A.sl.v542, kernelRun0_A.sl.cst_194, kernelRun0_A.sl.v830, kernelRun0_A.sl.v540, v530_eq, v429_eq]
  pointwise
  rfl

/-- Chunk 18 of the code words holds columns 2304 to 2431. -/
theorem v852_eq : kernelRun0_A.sl.v852 c arg1 harg1 arg2 harg2 arg3 harg3 arg4 harg4 arg5 harg5 arg6 harg6 arg7 x0 x1 x2 x3 x4 x5 = fun i => cN x0 x1 x2 x3 x4 x5 (i 0) (2304 + (i 1).val) := by
  funext i
  simp only [kernelRun0_A.sl.v852, kernelRun0_A.sl.v851, kernelRun0_A.sl.v544, kernelRun0_A.sl.cst_195, kernelRun0_A.sl.v849, kernelRun0_A.sl.v542, kernelRun0_A.sl.cst_194, kernelRun0_A.sl.v847, kernelRun0_A.sl.v540, v530_eq, v440_eq]
  pointwise
  rfl

/-- Chunk 19 of the code words holds columns 2432 to 2559. -/
theorem code19_eq : k0_pay75 (kernelRun0_A.sl.v232 c arg1 harg1 arg2 harg2 arg3 harg3 arg4 harg4 arg5 harg5 x0 x1 x2 x3 x4) (kernelRun0_A.sl.v530 c arg1 harg1 arg2 harg2 arg3 harg3 arg4 harg4 arg5 harg5 arg6 harg6 arg7 x0 x1 x2 x3 x4 x5) (kernelRun0_A.sl.v854 c arg1 harg1 arg2 harg2 arg3 harg3 arg4 harg4 arg5 harg5 arg7 x0 x1 x2 x3 x4) (View.readAt (Elt Ideal) arg6.view (Rect.unit (s := S1x2560) ![0, 2432] S1x128.size inb_S1x2560_S1x128_0_2432).toLoadRect (harg6.unread x5)) = fun i => cN x0 x1 x2 x3 x4 x5 (i 0) (2432 + (i 1).val) := by
  funext i
  simp only [k0_pay75, v854_eq, v232_eq, v530_eq, View.readAt_eq_ld, harg6.read_unread]
  pointwise
  have hi : (i 1).val < 128 := (i 1).isLt
  unfold cN
  rw [← nN_of x0 x1 x2 x3 x4 x5 (i 0) (2432 + (i 1).val) (by omega)]

end Cert.Proj
end
-- ==== Proof.Outputs.lean ====
module
public import proofs.«01_k».proof.Proof.Gen.KernelIdeal.Frame
public import Idealize.ShloMosaic.Lib.Pipeline.Value
public import Idealize.ShloMosaic.Lib.Pipeline.ReadBack
public import Idealize.ShloMosaic.Lib.Pointwise
public import Idealize.ShloMosaic.Lib.ValueIdx
public import proofs.«01_k».proof.Proof.Codes

/-! What the three output blocks hold after the body. -/

@[expose] public section
set_option maxRecDepth 16384
noncomputable section
namespace Cert.Proj
open Cert.KernelIdeal Cert.KernelIdeal.Gen Idealize.ShloMosaic Idealize.ShloMosaic.TcCoe Idealize.SL.Sem

variable (x0 : Vec Ideal S1x1x512 .f32) (x1 : Vec Ideal S512x5120 .fp8e4m3) (x2 : Vec Ideal S5120x2560 .fp8e4m3) (x3 : Vec Ideal S1x2560 .f32) (x4 : Vec Ideal S512x2560 .bf16)
variable (x5 : Vec Ideal S1x2560 .f32)

/-- The code words of the block as an array. -/
def cArr : S512x2560.Idx → EReal := fun y => cN x0 x1 x2 x3 x4 x5 (y 0) (y 1).val

/-- The scales of the block as an array. -/
def sArr : S1x1x512.Idx → EReal := fun y => kScale (qRow (hB x0 x1 x2 x3 x4 (y 2)) (gB x5))

/-- A piece holding its columns of the code words, on top of pieces of the code words. -/
theorem codes_cons (o : ℕ) (inb : ∀ a, ![0, o] a + S512x128.size a ≤ S512x2560.size a) (v : S512x128.Idx → EReal)
    (L : List (View.Piece (Elt Ideal) S512x2560 .fp8e4m3)) (hv : v = fun x => cN x0 x1 x2 x3 x4 x5 (x 0) (o + (x 1).val))
    (hL : View.PiecesOf (Val := Elt Ideal) (cArr x0 x1 x2 x3 x4 x5) L) :
    View.PiecesOf (Val := Elt Ideal) (cArr x0 x1 x2 x3 x4 x5) (⟨Rect.unit (s := S512x2560) ![0, o] S512x128.size inb, v⟩ :: L) := by
  refine ⟨fun (x : S512x128.Idx) => ?_, hL⟩
  subst hv
  have h0 : (((Rect.unit (s := S512x2560) ![0, o] S512x128.size inb).emb x) 0).val = 0 + 1 * (x 0).val := rfl
  have h1 : (((Rect.unit (s := S512x2560) ![0, o] S512x128.size inb).emb x) 1).val = o + 1 * (x 1).val := rfl
  show cN x0 x1 x2 x3 x4 x5 (x 0) (o + (x 1).val) = cN x0 x1 x2 x3 x4 x5 _ _
  rw [h1, one_mul]
  congr 1
  apply Fin.ext
  rw [h0]; omega

variable (c : Dev nD) (arg1 : Memref sig .tc .vmem S1x1x512 .f32) (harg1 : arg1.IsWhole) (arg2 : Memref sig .tc .vmem S512x5120 .fp8e4m3) (harg2 : arg2.IsWhole) (arg3 : Memref sig .tc .vmem S5120x2560 .fp8e4m3) (harg3 : arg3.IsWhole) (arg4 : Memref sig .tc .vmem S1x2560 .f32) (harg4 : arg4.IsWhole) (arg5 : Memref sig .tc .vmem S512x2560 .bf16) (harg5 : arg5.IsWhole)
variable (arg6 : Memref sig .tc .vmem S1x2560 .f32) (harg6 : arg6.IsWhole) (arg7 : Memref sig .tc .vmem S512x2560 .bf16) (harg7 : arg7.IsWhole) (arg8 : Memref sig .tc .vmem S512x2560 .fp8e4m3) (harg8 : arg8.IsWhole) (arg9 : Memref sig .tc .vmem S1x1x512 .f32) (harg9 : arg9.IsWhole)
variable (i : grid0.Coords)

/-- Every stored piece of code words is a part of the array. -/
theorem codes_pieces : View.PiecesOf (Val := Elt Ideal) (cArr x0 x1 x2 x3 x4 x5) (kernelRun0_A c i arg1 harg1 arg2 harg2 arg3 harg3 arg4 harg4 arg5 harg5 arg6 harg6 arg7 harg7 arg8 harg8 arg9 harg9 x0 x1 x2 x3 x4 x5).2.1 := by
  unfold kernelRun0_A
  dsimp only
  refine codes_cons x0 x1 x2 x3 x4 x5 2432 _ _ _ (code19_eq x0 x1 x2 x3 x4 x5 c arg1 harg1 arg2 harg2 arg3 harg3 arg4 harg4 arg5 harg5 arg6 harg6 arg7) ?_
  refine codes_cons x0 x1 x2 x3 x4 x5 2304 _ _ _ (v852_eq x0 x1 x2 x3 x4 x5 c arg1 harg1 arg2 harg2 arg3 harg3 arg4 harg4 arg5 harg5 arg6 harg6 arg7) ?_
  refine codes_cons x0 x1 x2 x3 x4 x5 2176 _ _ _ (v835_eq x0 x1 x2 x3 x4 x5 c arg1 harg1 arg2 harg2 arg3 harg3 arg4 harg4 arg5 harg5 arg6 harg6 arg7) ?_
  refine codes_cons x0 x1 x2 x3 x4 x5 2048 _ _ _ (v818_eq x0 x1 x2 x3 x4 x5 c arg1 harg1 arg2 harg2 arg3 harg3 arg4 harg4 arg5 harg5 arg6 harg6 arg7) ?_
  refine codes_cons x0 x1 x2 x3 x4 x5 1920 _ _ _ (v801_eq x0 x1 x2 x3 x4 x5 c arg1 harg1 arg2 harg2 arg3 harg3 arg4 harg4 arg5 harg5 arg6 harg6 arg7) ?_
  refine codes_cons x0 x1 x2 x3 x4 x5 1792 _ _ _ (v784_eq x0 x1 x2 x3 x4 x5 c arg1 harg1 arg2 harg2 arg3 harg3 arg4 harg4 arg5 harg5 arg6 harg6 arg7) ?_
  refine codes_cons x0 x1 x2 x3 x4 x5 1664 _ _ _ (v767_eq x0 x1 x2 x3 x4 x5 c arg1 harg1 arg2 harg2 arg3 harg3 arg4 harg4 arg5 harg5 arg6 harg6 arg7) ?_
  refine codes_cons x0 x1 x2 x3 x4 x5 1536 _ _ _ (v750_eq x0 x1 x2 x3 x4 x5 c arg1 harg1 arg2 harg2 arg3 harg3 arg4 harg4 arg5 harg5 arg6 harg6 arg7) ?_
  refine codes_cons x0 x1 x2 x3 x4 x5 1408 _ _ _ (v733_eq x0 x1 x2 x3 x4 x5 c arg1 harg1 arg2 harg2 arg3 harg3 arg4 harg4 arg5 harg5 arg6 harg6 arg7) ?_
  refine codes_cons x0 x1 x2 x3 x4 x5 1280 _ _ _ (v716_eq x0 x1 x2 x3 x4 x5 c arg1 harg1 arg2 harg2 arg3 harg3 arg4 harg4 arg5 harg5 arg6 harg6 arg7) ?_
  refine codes_cons x0 x1 x2 x3 x4 x5 1152 _ _ _ (v699_eq x0 x1 x2 x3 x4 x5 c arg1 harg1 arg2 harg2 arg3 harg3 arg4 harg4 arg5 harg5 arg6 harg6 arg7) ?_
  refine codes_cons x0 x1 x2 x3 x4 x5 1024 _ _ _ (v682_eq x0 x1 x2 x3 x4 x5 c arg1 harg1 arg2 harg2 arg3 harg3 arg4 harg4 arg5 harg5 arg6 harg6 arg7) ?_
  refine codes_cons x0 x1 x2 x3 x4 x5 896 _ _ _ (v665_eq x0 x1 x2 x3 x4 x5 c arg1 harg1 arg2 harg2 arg3 harg3 arg4 harg4 arg5 harg5 arg6 harg6 arg7) ?_
  refine codes_cons x0 x1 x2 x3 x4 x5 768 _ _ _ (v648_eq x0 x1 x2 x3 x4 x5 c arg1 harg1 arg2 harg2 arg3 harg3 arg4 harg4 arg5 harg5 arg6 harg6 arg7) ?_
  refine codes_cons x0 x1 x2 x3 x4 x5 640 _ _ _ (v631_eq x0 x1 x2 x3 x4 x5 c arg1 harg1 arg2 harg2 arg3 harg3 arg4 harg4 arg5 harg5 arg6 harg6 arg7) ?_
  refine codes_cons x0 x1 x2 x3 x4 x5 512 _ _ _ (v614_eq x0 x1 x2 x3 x4 x5 c arg1 harg1 arg2 harg2 arg3 harg3 arg4 harg4 arg5 harg5 arg6 harg6 arg7) ?_
  refine codes_cons x0 x1 x2 x3 x4 x5 384 _ _ _ (v597_eq x0 x1 x2 x3 x4 x5 c arg1 harg1 arg2 harg2 arg3 harg3 arg4 harg4 arg5 harg5 arg6 harg6 arg7) ?_
  refine codes_cons x0 x1 x2 x3 x4 x5 256 _ _ _ (v580_eq x0 x1 x2 x3 x4 x5 c arg1 harg1 arg2 harg2 arg3 harg3 arg4 harg4 arg5 harg5 arg6 harg6 arg7) ?_
  refine codes_cons x0 x1 x2 x3 x4 x5 128 _ _ _ (v563_eq x0 x1 x2 x3 x4 x5 c arg1 harg1 arg2 harg2 arg3 harg3 arg4 harg4 arg5 harg5 arg6 harg6 arg7) ?_
  refine codes_cons x0 x1 x2 x3 x4 x5 0 _ _ _ (v546_eq x0 x1 x2 x3 x4 x5 c arg1 harg1 arg2 harg2 arg3 harg3 arg4 harg4 arg5 harg5 arg6 harg6 arg7) ?_
  trivial

/-- The first output block holds the residual stream. -/
theorem out6_eq : out0_A_6 c i arg1 harg1 arg2 harg2 arg3 harg3 arg4 harg4 arg5 harg5 arg6 harg6 arg7 harg7 arg8 harg8 arg9 harg9 x0 x1 x2 x3 x4 x5 = hArr x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  exact H6_canon x0 x1 x2 x3 x4 c arg1 harg1 arg2 harg2 arg3 harg3 arg4 harg4 arg5 harg5

/-- The second output block holds the code words. -/
theorem out7_eq : out0_A_7 c i arg1 harg1 arg2 harg2 arg3 harg3 arg4 harg4 arg5 harg5 arg6 harg6 arg7 harg7 arg8 harg8 arg9 harg9 x0 x1 x2 x3 x4 x5 = cArr x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  funext y
  have := View.canon_append_of_piecesOf (cArr x0 x1 x2 x3 x4 x5) [] _ (codes_pieces x0 x1 x2 x3 x4 x5 c arg1 harg1 arg2 harg2 arg3 harg3 arg4 harg4 arg5 harg5 arg6 harg6 arg7 harg7 arg8 harg8 arg9 harg9 i) y (cover0_A_7 c i arg1 harg1 arg2 harg2 arg3 harg3 arg4 harg4 arg5 harg5 arg6 harg6 arg7 harg7 arg8 harg8 arg9 harg9 x0 x1 x2 x3 x4 x5 y)
  rwa [List.append_nil] at this

/-- The one stored piece of scales is the array. -/
theorem scale_piece : View.PiecesOf (Val := Elt Ideal) (sArr x0 x1 x2 x3 x4 x5) (kernelRun0_A c i arg1 harg1 arg2 harg2 arg3 harg3 arg4 harg4 arg5 harg5 arg6 harg6 arg7 harg7 arg8 harg8 arg9 harg9 x0 x1 x2 x3 x4 x5).2.2.1 := by
  unfold kernelRun0_A
  dsimp only
  refine ⟨fun (x : S1x1x512.Idx) => ?_, trivial⟩
  simp only [k0_pay1, r_3_eq]
  pointwise
  have h2 : (((Rect.unit (s := S1x1x512) ![0, 0, 0] S1x1x512.size inb_S1x1x512_S1x1x512_0_0_0).emb x) 2) = x 2 := by
    apply Fin.ext
    show 0 + 1 * (x 2).val = _
    omega
  show _ = kScale (qRow (hB x0 x1 x2 x3 x4 (((Rect.unit (s := S1x1x512) ![0, 0, 0] S1x1x512.size inb_S1x1x512_S1x1x512_0_0_0).emb x) 2)) (gB x5))
  rw [h2]

/-- The third output block holds the scales. -/
theorem out8_eq : out0_A_8 c i arg1 harg1 arg2 harg2 arg3 harg3 arg4 harg4 arg5 harg5 arg6 harg6 arg7 harg7 arg8 harg8 arg9 harg9 x0 x1 x2 x3 x4 x5 = sArr x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5)]
  funext y
  have := View.canon_append_of_piecesOf (sArr x0 x1 x2 x3 x4 x5) [] _ (scale_piece x0 x1 x2 x3 x4 x5 c arg1 harg1 arg2 harg2 arg3 harg3 arg4 harg4 arg5 harg5 arg6 harg6 arg7 harg7 arg8 harg8 arg9 harg9 i) y (cover0_A_8 c i arg1 harg1 arg2 harg2 arg3 harg3 arg4 harg4 arg5 harg5 arg6 harg6 arg7 harg7 arg8 harg8 arg9 harg9 x0 x1 x2 x3 x4 x5 y)
  rwa [List.append_nil] at this

end Cert.Proj
end
-- ==== Proof.Arrays.lean ====
module
public import proofs.«01_k».proof.Proof.Outputs
public import Idealize.ShloMosaic.Lib.Pipeline.ValueKit
public import Idealize.ShloMosaic.Lib.Claim

/-! The arrays around the kernel: what its input blocks hold of the arguments, and what its result arrays hold. -/

@[expose] public section
set_option maxRecDepth 16384
noncomputable section
namespace Cert.Proj
open Cert.KernelIdeal Cert.KernelIdeal.Gen Idealize.ShloMosaic Idealize.ShloMosaic.TcCoe Idealize.SL.Sem

/-- The residual stream of token `(b, s)`, as a row. -/
def hAt (X : Vec Ideal S8x3072x5120 .fp8e4m3) (XS : Vec Ideal S8x3072x1 .f32) (W : Vec Ideal S5120x2560 .fp8e4m3) (WS : Vec Ideal S2560 .f32) (RES : Vec Ideal S8x3072x2560 .bf16)
    (b : Fin 8) (s : Fin 3072) : Fin 2560 → EReal :=
  hRow (fun k => X (ix3 b s k)) (fun k c => W (ix2 k c)) (XS (ix3 b s 0)) (fun c => WS (ix1 c)) (fun c => RES (ix3 b s c))

/-- Gamma by column. -/
def gAt (G : Vec Ideal S2560 .bf16) (c : Fin 2560) : EReal := G (ix1 c)

/-- The code word with the kernel's own power of two. -/
def kCode (h g : Fin 2560 → EReal) (c : Fin 2560) : EReal :=
  min (Ideal.ofBits .f32 0x43E00000#32) (max (Ideal.ofBits .f32 0xC3E00000#32) (nRow h g c * kInv (qRow h g)))

/-- The batch of a row number. -/
def bOf (n : ℕ) (h : n < 24576) : Fin 8 := ⟨n / 3072, by omega⟩
/-- The token of a row number. -/
def sOf (n : ℕ) : Fin 3072 := ⟨n % 3072, by omega⟩

/-! The reshapes, index by index. -/

/-- Rows of the flattened array of tokens. -/
theorem flatX (x : S8x3072x5120.Idx → EReal) (y : S24576x5120.Idx) :
    shapeCast S24576x5120 x shapeCasts_S8x3072x5120_S24576x5120 y = x (ix3 (bOf (y 0).val (y 0).isLt) (sOf (y 0).val) (y 1)) := by
  pointwise
  rfl

/-- Rows of the flattened residual, likewise. -/
theorem flatRes (x : S8x3072x2560.Idx → EReal) (y : S24576x2560.Idx) :
    shapeCast S24576x2560 x shapeCasts_S8x3072x2560_S24576x2560 y = x (ix3 (bOf (y 0).val (y 0).isLt) (sOf (y 0).val) (y 1)) := by
  pointwise
  rfl

/-- Place `r` of block `t` of the scales is a row of the array. -/
theorem scale_lt (y : S48x1x512.Idx) : 512 * (y 0).val + (y 2).val < 24576 := by
  have h0 : (y 0).val < 48 := (y 0).isLt
  have h2 : (y 2).val < 512 := (y 2).isLt
  omega

/-- The scales cut into blocks of 512 rows. -/
theorem flatScale (x : S8x3072x1.Idx → EReal) (y : S48x1x512.Idx) :
    shapeCast S48x1x512 x shapeCasts_S8x3072x1_S48x1x512 y = x (ix3 (bOf _ (scale_lt y)) (sOf (512 * (y 0).val + (y 2).val)) 0) := by
  pointwise
  have h2 : (y 2).val < 512 := (y 2).isLt
  unfold bOf sOf
  refine congrArg x ?_
  refine congrArg₂ (fun a b => ix3 a b 0) (Fin.ext ?_) (Fin.ext ?_) <;> dsimp only <;> omega

/-- A vector as one row. -/
theorem unitRow (x : S2560.Idx → EReal) (y : S1x2560.Idx) : shapeCast S1x2560 x shapeCasts_S2560_S1x2560 y = x (ix1 (y 1)) := by
  pointwise

/-- The rows of a result grouped by batch. -/
theorem foldTok (x : S24576x2560.Idx → EReal) (y : S8x3072x2560.Idx) (h : 3072 * (y 0).val + (y 1).val < 24576) :
    shapeCast S8x3072x2560 x shapeCasts_S24576x2560_S8x3072x2560 y = x (ix2 ⟨3072 * (y 0).val + (y 1).val, h⟩ (y 2)) := by
  pointwise
  refine congrArg x (congrArg₂ (fun a b => ix2 a b) (Fin.ext ?_) rfl)
  dsimp only; omega

/-- The scales by block, grouped by batch. -/
theorem foldScale (x : S48x1x512.Idx → EReal) (y : S8x3072x1.Idx) (h : (3072 * (y 0).val + (y 1).val) / 512 < 48) :
    shapeCast S8x3072x1 x shapeCasts_S48x1x512_S8x3072x1 y = x (ix3 ⟨(3072 * (y 0).val + (y 1).val) / 512, h⟩ 0 ⟨(3072 * (y 0).val + (y 1).val) % 512, by omega⟩) := by
  pointwise
  refine congrArg x (congrArg₂ (fun a b => ix3 a 0 b) (Fin.ext ?_) (Fin.ext ?_)) <;> dsimp only <;> omega

variable (m : (ℓ : Loc nD τ sig) → Buf (Elt Ideal) ℓ)

/-- The window index maps. -/
theorem idx_val : ∀ t : Fin cfg0.N, win0_0.index t = ![t.val, 0, 0] ∧ win0_1.index t = ![t.val, 0] ∧ win0_2.index t = ![0, 0] ∧ win0_3.index t = ![0, 0]
   ∧ win0_4.index t = ![t.val, 0] ∧ win0_5.index t = ![0, 0] ∧ win0_6.index t = ![t.val, 0] ∧ win0_7.index t = ![t.val, 0] ∧ win0_8.index t = ![t.val, 0, 0] :=
  (by decide +kernel : ∀ t : Fin grid0.N, _)

/-! The arrays the blocks are cut from, as reshaped arguments. -/

/-- The scales of the tokens, in blocks. -/
theorem V_v0 (c : Dev nD) : V m c main_v0 = (shapeCast S48x1x512 (m ((c : Thread nD τ).loc main_arg1) : Vec Ideal S8x3072x1 .f32) shapeCasts_S8x3072x1_S48x1x512 : Vec Ideal S48x1x512 .f32) := by
  unfold V V0
  simp only [List.flatten_cons, List.flatten_nil, List.append_nil]
  after_results
  rfl

/-- The flattened tokens. -/
theorem V_v1 (c : Dev nD) : V m c main_v1 = (shapeCast S24576x5120 (m ((c : Thread nD τ).loc main_arg0) : Vec Ideal S8x3072x5120 .fp8e4m3) shapeCasts_S8x3072x5120_S24576x5120 : Vec Ideal S24576x5120 .fp8e4m3) := by
  unfold V V0
  simp only [List.flatten_cons, List.flatten_nil, List.append_nil]
  after_results
  rfl

/-- The scales of the columns as one row. -/
theorem V_v2 (c : Dev nD) : V m c main_v2 = (shapeCast S1x2560 (m ((c : Thread nD τ).loc main_arg3) : Vec Ideal S2560 .f32) shapeCasts_S2560_S1x2560 : Vec Ideal S1x2560 .f32) := by
  unfold V V0
  simp only [List.flatten_cons, List.flatten_nil, List.append_nil]
  after_results
  rfl

/-- The flattened residual. -/
theorem V_v3 (c : Dev nD) : V m c main_v3 = (shapeCast S24576x2560 (m ((c : Thread nD τ).loc main_arg4) : Vec Ideal S8x3072x2560 .bf16) shapeCasts_S8x3072x2560_S24576x2560 : Vec Ideal S24576x2560 .bf16) := by
  unfold V V0
  simp only [List.flatten_cons, List.flatten_nil, List.append_nil]
  after_results
  rfl

/-- Gamma as one row. -/
theorem V_v5 (c : Dev nD) : V m c main_v5 = (shapeCast S1x2560 (fun i => (m ((c : Thread nD τ).loc main_arg5) : Vec Ideal S2560 .bf16) i : Vec Ideal S2560 .f32) shapeCasts_S2560_S1x2560 : Vec Ideal S1x2560 .f32) := by
  unfold V V0
  simp only [List.flatten_cons, List.flatten_nil, List.append_nil]
  after_results
  rfl

/-! A block element as an argument element: row `r` of block `t` is row `512 t + r` of the array. -/

/-- Row `r` of block `t` is a row of the array. -/
theorem row_lt (t : Fin cfg0.N) (r : Fin 512) : 512 * t.val + r.val < 24576 := by
  have h1 : t.val < 48 := t.isLt
  omega

/-- The token scales of a block. -/
theorem iblk0_at (c : Dev nD) (t : Fin cfg0.N) (r : Fin 512) :
    (iblk m c 0 t : Vec Ideal S1x1x512 .f32) (ix3 0 0 r)
      = (m ((c : Thread nD τ).loc main_arg1) : Vec Ideal S8x3072x1 .f32) (ix3 (bOf _ (row_lt t r)) (sOf (512 * t.val + r.val)) 0) := by
  show (V m c main_v0 : Vec Ideal S48x1x512 .f32) (((cfg0.win 0).blk t).view.emb (ix3 0 0 r)) = _
  rw [V_v0]
  have e : (((cfg0.win 0).blk t).view.emb (ix3 0 0 r) : S48x1x512.Idx) = ix3 ⟨t.val, t.isLt⟩ 0 r := by
    blk_ext [idx_val t]
  rw [e]
  exact flatScale _ _

/-- The tokens of a block. -/
theorem iblk1_at (c : Dev nD) (t : Fin cfg0.N) (r : Fin 512) (k : Fin 5120) :
    (iblk m c 1 t : Vec Ideal S512x5120 .fp8e4m3) (ix2 r k)
      = (m ((c : Thread nD τ).loc main_arg0) : Vec Ideal S8x3072x5120 .fp8e4m3) (ix3 (bOf _ (row_lt t r)) (sOf (512 * t.val + r.val)) k) := by
  show (V m c main_v1 : Vec Ideal S24576x5120 .fp8e4m3) (((cfg0.win 1).blk t).view.emb (ix2 r k)) = _
  rw [V_v1]
  have e : (((cfg0.win 1).blk t).view.emb (ix2 r k) : S24576x5120.Idx) = ix2 ⟨512 * t.val + r.val, row_lt t r⟩ k := by
    blk_ext [idx_val t]
  rw [e]
  exact flatX _ _

/-- The weights are the whole array in every block. -/
theorem iblk2_at (c : Dev nD) (t : Fin cfg0.N) (k : Fin 5120) (n : Fin 2560) :
    (iblk m c 2 t : Vec Ideal S5120x2560 .fp8e4m3) (ix2 k n)
      = (m ((c : Thread nD τ).loc main_arg2) : Vec Ideal S5120x2560 .fp8e4m3) (ix2 k n) := by
  show (V m c main_arg2 : Vec Ideal S5120x2560 .fp8e4m3) (((cfg0.win 2).blk t).view.emb (ix2 k n)) = _
  have e : (((cfg0.win 2).blk t).view.emb (ix2 k n) : S5120x2560.Idx) = ix2 k n := by
    blk_ext [idx_val t]
  rw [e, V_main_arg2]

/-- The column scales are the whole array in every block. -/
theorem iblk3_at (c : Dev nD) (t : Fin cfg0.N) (n : Fin 2560) :
    (iblk m c 3 t : Vec Ideal S1x2560 .f32) (ix2 0 n)
      = (m ((c : Thread nD τ).loc main_arg3) : Vec Ideal S2560 .f32) (ix1 n) := by
  show (V m c main_v2 : Vec Ideal S1x2560 .f32) (((cfg0.win 3).blk t).view.emb (ix2 0 n)) = _
  rw [V_v2]
  have e : (((cfg0.win 3).blk t).view.emb (ix2 0 n) : S1x2560.Idx) = ix2 0 n := by
    blk_ext [idx_val t]
  rw [e]
  exact unitRow _ _

/-- The residual of a block. -/
theorem iblk4_at (c : Dev nD) (t : Fin cfg0.N) (r : Fin 512) (n : Fin 2560) :
    (iblk m c 4 t : Vec Ideal S512x2560 .bf16) (ix2 r n)
      = (m ((c : Thread nD τ).loc main_arg4) : Vec Ideal S8x3072x2560 .bf16) (ix3 (bOf _ (row_lt t r)) (sOf (512 * t.val + r.val)) n) := by
  show (V m c main_v3 : Vec Ideal S24576x2560 .bf16) (((cfg0.win 4).blk t).view.emb (ix2 r n)) = _
  rw [V_v3]
  have e : (((cfg0.win 4).blk t).view.emb (ix2 r n) : S24576x2560.Idx) = ix2 ⟨512 * t.val + r.val, row_lt t r⟩ n := by
    blk_ext [idx_val t]
  rw [e]
  exact flatRes _ _

/-- Gamma is the whole array in every block. -/
theorem iblk5_at (c : Dev nD) (t : Fin cfg0.N) (n : Fin 2560) :
    (iblk m c 5 t : Vec Ideal S1x2560 .f32) (ix2 0 n)
      = (m ((c : Thread nD τ).loc main_arg5) : Vec Ideal S2560 .bf16) (ix1 n) := by
  show (V m c main_v5 : Vec Ideal S1x2560 .f32) (((cfg0.win 5).blk t).view.emb (ix2 0 n)) = _
  rw [V_v5]
  have e : (((cfg0.win 5).blk t).view.emb (ix2 0 n) : S1x2560.Idx) = ix2 0 n := by
    blk_ext [idx_val t]
  rw [e]
  exact unitRow _ _

end Cert.Proj
end
-- ==== Proof.Finals.lean ====
module
public import proofs.«01_k».proof.Proof.Outputs
public import proofs.«01_k».proof.Proof.Arrays
public import Idealize.ShloMosaic.Lib.Pipeline.ValueKit

/-! What the three result arrays hold after the last block. -/

@[expose] public section
set_option maxRecDepth 16384
noncomputable section
namespace Cert.Proj
open Cert.KernelIdeal Cert.KernelIdeal.Gen Idealize.ShloMosaic Idealize.ShloMosaic.TcCoe Idealize.SL.Sem

variable (m : (ℓ : Loc nD τ sig) → Buf (Elt Ideal) ℓ)

/-- The residual stream of row `n` from the arguments on device `c`. -/
def hM (c : Dev nD) (b : Fin 8) (s : Fin 3072) : Fin 2560 → EReal :=
  hAt (m ((c : Thread nD τ).loc main_arg0) : Vec Ideal S8x3072x5120 .fp8e4m3) (m ((c : Thread nD τ).loc main_arg1) : Vec Ideal S8x3072x1 .f32)
    (m ((c : Thread nD τ).loc main_arg2) : Vec Ideal S5120x2560 .fp8e4m3) (m ((c : Thread nD τ).loc main_arg3) : Vec Ideal S2560 .f32) (m ((c : Thread nD τ).loc main_arg4) : Vec Ideal S8x3072x2560 .bf16) b s

/-- Gamma on device `c`. -/
def gM (c : Dev nD) : Fin 2560 → EReal := gAt (m ((c : Thread nD τ).loc main_arg5) : Vec Ideal S2560 .bf16)

/-- A row of a block is a row of the arrays. -/
theorem hB_blk (c : Dev nD) (t : Fin cfg0.N) (r : Fin 512) :
    hB (iblk m c 0 t) (iblk m c 1 t) (iblk m c 2 t) (iblk m c 3 t) (iblk m c 4 t) r = hM m c (bOf _ (row_lt t r)) (sOf (512 * t.val + r.val)) := by
  unfold hB hM hAt
  congr 1
  · funext k; exact iblk1_at m c t r k
  · funext k n; exact iblk2_at m c t k n
  · exact iblk0_at m c t r
  · funext n; exact iblk3_at m c t n
  · funext n; exact iblk4_at m c t r n

/-- Gamma in a block. -/
theorem gB_blk (c : Dev nD) (t : Fin cfg0.N) : gB (iblk m c 5 t) = gM m c := by
  funext n; exact iblk5_at m c t n

/-- The residual stream by row number. -/
def arr6 (c : Dev nD) : S24576x2560.Idx → EReal := fun i => hM m c (bOf (i 0).val (i 0).isLt) (sOf (i 0).val) (i 1)

/-- The code words by row number. -/
def arr7 (c : Dev nD) : S24576x2560.Idx → EReal := fun i => kCode (hM m c (bOf (i 0).val (i 0).isLt) (sOf (i 0).val)) (gM m c) (i 1)

/-- The scales by block and row. -/
def arr8 (c : Dev nD) : S48x1x512.Idx → EReal := fun i => kScale (qRow (hM m c (bOf _ (scale_lt i)) (sOf (512 * (i 0).val + (i 2).val))) (gM m c))

/-- Where an element of a block of the first result sits in the array. -/
theorem emb6 (t : Fin cfg0.N) (y : S512x2560.Idx) : (((cfg0.win 6).blk t).view.emb y : S24576x2560.Idx) = ix2 ⟨512 * t.val + (y 0).val, row_lt t (y 0)⟩ (y 1) := by
  blk_ext [idx_val t]

/-- Where an element of a block of the second result sits. -/
theorem emb7 (t : Fin cfg0.N) (y : S512x2560.Idx) : (((cfg0.win 7).blk t).view.emb y : S24576x2560.Idx) = ix2 ⟨512 * t.val + (y 0).val, row_lt t (y 0)⟩ (y 1) := by
  blk_ext [idx_val t]

/-- Where an element of a block of the third result sits. -/
theorem emb8 (t : Fin cfg0.N) (y : S1x1x512.Idx) : (((cfg0.win 8).blk t).view.emb y : S48x1x512.Idx) = ix3 ⟨t.val, t.isLt⟩ 0 (y 2) := by
  blk_ext [idx_val t]

/-- What a block of the first result holds, as elements of the array. -/
theorem out6_blk (c : Dev nD) (t : Fin cfg0.N) (y : S512x2560.Idx) : ((outsAt0 m c t).1 : Vec Ideal S512x2560 .bf16) y = arr6 m c (ix2 ⟨512 * t.val + (y 0).val, row_lt t (y 0)⟩ (y 1)) := by
  unfold outsAt0
  dsimp only
  rw [out6_eq]
  show hN _ _ _ _ _ (y 0) (y 1).val = _
  rw [hN_eq _ _ _ _ _ (y 0) (y 1).val (y 1).isLt]
  exact congrFun (hB_blk m c t (y 0)) (y 1)

/-- What a block of the second result holds. -/
theorem out7_blk (c : Dev nD) (t : Fin cfg0.N) (y : S512x2560.Idx) : ((outsAt0 m c t).2.1 : Vec Ideal S512x2560 .fp8e4m3) y = arr7 m c (ix2 ⟨512 * t.val + (y 0).val, row_lt t (y 0)⟩ (y 1)) := by
  unfold outsAt0
  dsimp only
  rw [out7_eq]
  show cN _ _ _ _ _ _ (y 0) (y 1).val = _
  unfold cN
  rw [nN_eq _ _ _ _ _ _ (y 0) (y 1).val (y 1).isLt]
  exact congrArg₂ (fun h g => kCode h g (y 1)) (hB_blk m c t (y 0)) (gB_blk m c t)

/-- What a block of the third result holds. -/
theorem out8_blk (c : Dev nD) (t : Fin cfg0.N) (y : S1x1x512.Idx) : ((outsAt0 m c t).2.2 : Vec Ideal S1x1x512 .f32) y = arr8 m c (ix3 ⟨t.val, t.isLt⟩ 0 (y 2)) := by
  unfold outsAt0
  dsimp only
  rw [out8_eq]
  show kScale (qRow (hB _ _ _ _ _ (y 2)) (gB _)) = _
  exact congrArg₂ (fun h g => kScale (qRow h g)) (hB_blk m c t (y 2)) (gB_blk m c t)

/-- The first result array. -/
theorem final6 (c : Dev nD) : (dats m 0 c).arrAt 6 cfg0.N = arr6 m c := by
  refine (dats m 0 c).arrAt_eq_of_covers 6 (arr6 m c) (by decide +kernel) fun t _ y => ?_
  blk_simp
  rw [after0_6]
  refine (out6_blk m c t y).trans ?_
  exact congrArg (arr6 m c) (emb6 t y).symm

/-- The second result array. -/
theorem final7 (c : Dev nD) : (dats m 0 c).arrAt 7 cfg0.N = arr7 m c := by
  refine (dats m 0 c).arrAt_eq_of_covers 7 (arr7 m c) (by decide +kernel) fun t _ y => ?_
  blk_simp
  rw [after0_7]
  refine (out7_blk m c t y).trans ?_
  exact congrArg (arr7 m c) (emb7 t y).symm

/-- The third result array. -/
theorem final8 (c : Dev nD) : (dats m 0 c).arrAt 8 cfg0.N = arr8 m c := by
  refine (dats m 0 c).arrAt_eq_of_covers 8 (arr8 m c) (by decide +kernel) fun t _ y => ?_
  blk_simp
  rw [after0_8]
  refine (out8_blk m c t y).trans ?_
  exact congrArg (arr8 m c) (emb8 t y).symm

end Cert.Proj
end
-- ==== Proof.Run.lean ====
module
public import proofs.«01_k».proof.Proof.Finals
public import Idealize.ShloMosaic.Lib.Claim

/-! The kernel's run: what the three results hold, and that the arguments are unchanged. -/

@[expose] public section
set_option maxRecDepth 16384
noncomputable section
namespace Cert.Proj
open Cert.KernelIdeal Cert.KernelIdeal.Gen Idealize.ShloMosaic Idealize.ShloMosaic.TcCoe Idealize.SL.Sem

variable (m : (ℓ : Loc nD τ sig) → Buf (Elt Ideal) ℓ)

/-- Token `s` of batch `b` is a row of the flattened array. -/
theorem tok_lt (y : S8x3072x2560.Idx) : 3072 * (y 0).val + (y 1).val < 24576 := by
  have h0 : (y 0).val < 8 := (y 0).isLt
  have h1 : (y 1).val < 3072 := (y 1).isLt
  omega

/-- Row `3072 b + s` is token `s` of batch `b`. -/
theorem bOf_row (b : Fin 8) (s : Fin 3072) (n : ℕ) (hn : n = 3072 * b.val + s.val) (h : n < 24576) : bOf n h = b := by
  apply Fin.ext
  show n / 3072 = b.val
  have := s.isLt
  omega

/-- The token of row `3072 b + s`. -/
theorem sOf_row (b : Fin 8) (s : Fin 3072) (n : ℕ) (hn : n = 3072 * b.val + s.val) : sOf n = s := by
  apply Fin.ext
  show n % 3072 = s.val
  have := s.isLt
  omega

/-- The residual stream by row number is that of the batch and token. -/
theorem hM_row (c : Dev nD) (b : Fin 8) (s : Fin 3072) (n : ℕ) (hn : n = 3072 * b.val + s.val) (h : n < 24576) : hM m c (bOf n h) (sOf n) = hM m c b s := by
  rw [bOf_row b s n hn h, sOf_row b s n hn]

/-- The first result by batch, token and column. -/
def res0 (c : Dev nD) : S8x3072x2560.Idx → EReal := fun i => hM m c (i 0) (i 1) (i 2)
/-- The second result. -/
def res1 (c : Dev nD) : S8x3072x2560.Idx → EReal := fun i => kCode (hM m c (i 0) (i 1)) (gM m c) (i 2)
/-- The third result. -/
def res2 (c : Dev nD) : S8x3072x1.Idx → EReal := fun i => kScale (qRow (hM m c (i 0) (i 1)) (gM m c))

/-- The first result, grouped by batch. -/
theorem fold6 (c : Dev nD) : shapeCast S8x3072x2560 (arr6 m c) shapeCasts_S24576x2560_S8x3072x2560 = res0 m c := by
  funext y
  rw [foldTok _ _ (tok_lt y)]
  exact congrFun (hM_row m c (y 0) (y 1) _ rfl _) (y 2)

/-- The second result, grouped by batch. -/
theorem fold7 (c : Dev nD) : shapeCast S8x3072x2560 (arr7 m c) shapeCasts_S24576x2560_S8x3072x2560 = res1 m c := by
  funext y
  rw [foldTok _ _ (tok_lt y)]
  exact congrArg (fun h => kCode h (gM m c) (y 2)) (hM_row m c (y 0) (y 1) _ rfl _)

/-- The third result, grouped by batch. -/
theorem fold8 (c : Dev nD) : shapeCast S8x3072x1 (arr8 m c) shapeCasts_S48x1x512_S8x3072x1 = res2 m c := by
  funext y
  have h0 : (y 0).val < 8 := (y 0).isLt
  have h1 : (y 1).val < 3072 := (y 1).isLt
  rw [foldScale _ _ (by omega)]
  have e : 512 * ((3072 * (y 0).val + (y 1).val) / 512) + (3072 * (y 0).val + (y 1).val) % 512 = 3072 * (y 0).val + (y 1).val := by omega
  exact congrArg (fun h => kScale (qRow h (gM m c))) (hM_row m c (y 0) (y 1) _ e _)

/-- What the first result buffer holds after the last reshape. -/
theorem T_v7 (c : Dev nD) : Pipeline.afterTail₀ cfgs (dats m) 0 (V0 m) [hostOps1] c main_v7 = res0 m c := by
  have e := Pipeline.withArrays_arr spec0 launch0.win.arr_inj c (V0 m c) (fun w => (dats m 0 c).arrAt w cfg0.N) 6
  unfold Pipeline.afterTail₀
  simp only [List.flatten_cons, List.flatten_nil, List.append_nil]
  after_results
  refine Eq.trans ?_ (fold6 m c)
  rw [← final6]
  exact congrArg (fun z => shapeCast S8x3072x2560 (z : Vec Ideal S24576x2560 .bf16) shapeCasts_S24576x2560_S8x3072x2560) e

/-- What the second result buffer holds. -/
theorem T_v8 (c : Dev nD) : Pipeline.afterTail₀ cfgs (dats m) 0 (V0 m) [hostOps1] c main_v8 = res1 m c := by
  have e := Pipeline.withArrays_arr spec0 launch0.win.arr_inj c (V0 m c) (fun w => (dats m 0 c).arrAt w cfg0.N) 7
  unfold Pipeline.afterTail₀
  simp only [List.flatten_cons, List.flatten_nil, List.append_nil]
  after_results
  refine Eq.trans ?_ (fold7 m c)
  rw [← final7]
  exact congrArg (fun z => shapeCast S8x3072x2560 (z : Vec Ideal S24576x2560 .fp8e4m3) shapeCasts_S24576x2560_S8x3072x2560) e

/-- What the third result buffer holds. -/
theorem T_v9 (c : Dev nD) : Pipeline.afterTail₀ cfgs (dats m) 0 (V0 m) [hostOps1] c main_v9 = res2 m c := by
  have e := Pipeline.withArrays_arr spec0 launch0.win.arr_inj c (V0 m c) (fun w => (dats m 0 c).arrAt w cfg0.N) 8
  unfold Pipeline.afterTail₀
  simp only [List.flatten_cons, List.flatten_nil, List.append_nil]
  after_results
  refine Eq.trans ?_ (fold8 m c)
  rw [← final8]
  exact congrArg (fun z => shapeCast S8x3072x1 (z : Vec Ideal S48x1x512 .f32) shapeCasts_S48x1x512_S8x3072x1) e

/-- The kernel ends with the three results at the rows' values and every argument unchanged. -/
theorem run (ρ : Dev nD → PrngReg) : θ_run defs (onTc (τ := τ) (main (F := Ideal))) ⟨m, fun _ => 0, ρ⟩ fun r => ∀ c : Dev nD,
      r.2.mem ((c.tc : Thread nD τ).loc main_v7) = res0 m c
      ∧ r.2.mem ((c.tc : Thread nD τ).loc main_v8) = res1 m c
      ∧ r.2.mem ((c.tc : Thread nD τ).loc main_v9) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
    ((h c).2 main_v7 (Pipeline.mem_restRefs_of main_v7 (by decide) (by decide))).trans (T_v7 m c),
    ((h c).2 main_v8 (Pipeline.mem_restRefs_of main_v8 (by decide) (by decide))).trans (T_v8 m c),
    ((h c).2 main_v9 (Pipeline.mem_restRefs_of main_v9 (by decide) (by decide))).trans (T_v9 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m ρ)

end Cert.Proj
end
-- ==== Proof.Reference.lean ====
module
public import proofs.«01_k».proof.Proof.Row
public import proofs.«01_k».proof.Proof.Gen.ReferenceIdeal.Skeleton
public import Idealize.ShloMosaic.Lib.Pointwise
public import Idealize.ShloMosaic.Lib.ValueIdx

/-! What the reference computes, row by row. -/

@[expose] public section
set_option maxRecDepth 16384
noncomputable section
namespace Cert.Proj.Ref
open Cert.ReferenceIdeal Cert.ReferenceIdeal.Gen Idealize.ShloMosaic Idealize.ShloMosaic.TcCoe Idealize.SL.Sem

variable (X : Vec Ideal S8x3072x5120 .fp8e4m3) (XS : Vec Ideal S8x3072x1 .f32) (W : Vec Ideal S5120x2560 .fp8e4m3) (WS : Vec Ideal S2560 .f32) (RES : Vec Ideal S8x3072x2560 .bf16) (G : Vec Ideal S2560 .bf16)

/-- The residual stream of token `(b, s)`, as a row. -/
def hAt (b : Fin 8) (s : Fin 3072) : Fin 2560 → EReal :=
  hRow (fun k => X (ix3 b s k)) (fun k c => W (ix2 k c)) (XS (ix3 b s 0)) (fun c => WS (ix1 c)) (fun c => RES (ix3 b s c))

/-- Gamma by column. -/
def gAt (c : Fin 2560) : EReal := G (ix1 c)

/-- An index of the residual array is its three coordinates. -/
theorem eta3 (i : S8x3072x2560.Idx) : (ix3 (i 0) (i 1) (i 2) : S8x3072x2560.Idx) = i := by
  funext a; fin_cases a <;> rfl

/-- The first result is the residual stream. -/
theorem pay4_eq : k0_pay4 (F := Ideal) X W XS WS RES = fun i => hAt X XS W WS RES (i 0) (i 1) (i 2) := by
  funext i
  simp only [k0_pay4]
  pointwise
  exact congrArg (· + (∑ k, X (ix3 (i 0) (i 1) k) * W (ix2 k (i 2))) * XS (ix3 (i 0) (i 1) 0) * WS (ix1 (i 2))) (congrArg RES (eta3 i).symm)

/-- The reciprocal root mean square of each row of an array. -/
def rmsR (H : FVec Ideal S8x3072x2560 .f32) : FVec Ideal S8x3072x1 .f32 :=
  rsqrt (addf (divf (shapeCast S8x3072x1 (multiReduction .add [2] S8x3072 (mulf H H) 0x00000000#32 reduces_S8x3072x2560_S8x3072 (.inl rfl) rfl) shapeCasts_S8x3072_S8x3072x1) (broadcast S8x3072x1 (Scalar.ofBits .f32 0x45200000#32))) (broadcast S8x3072x1 (Scalar.ofBits .f32 0x3727C5AC#32)))

/-- Row by row it is the reciprocal root of the mean of the squares. -/
theorem rmsR_eq (H : FVec Ideal S8x3072x2560 .f32) : rmsR H = fun i => Ideal.rsqrt (msRow (fun c => H (ix3 (i 0) (i 1) c))) := by
  funext i
  unfold rmsR
  pointwise
  unfold msRow
  rfl

/-- Gamma over every row. -/
def gamR : FVec Ideal S8x3072x2560 .f32 := broadcastTo S8x3072x2560 (shapeCast S1x1x2560 (extf (F := Ideal) .f32 G bitsLt_bf16_f32) shapeCasts_S2560_S1x1x2560) broadcasts_S1x1x2560_S8x3072x2560

/-- Every row of it is gamma. -/
theorem gamR_eq : gamR G = fun i => gAt G (i 2) := by
  funext i
  unfold gamR
  pointwise
  rfl

/-- A column over every column. -/
theorem colR_eq (Q : FVec Ideal S8x3072x1 .f32) : broadcastTo S8x3072x2560 Q broadcasts_S8x3072x1_S8x3072x2560 = fun i => Q (ix3 (i 0) (i 1) 0) := by
  funext i
  pointwise

/-- The normalised array is the first result over its root mean square, times gamma. -/
theorem pay5_split : k0_pay5 (F := Ideal) X W XS WS RES G
    = mulf (mulf (extf .f32 (k0_pay4 (F := Ideal) X W XS WS RES) bitsLt_bf16_f32) (broadcastTo S8x3072x2560 (rmsR (extf .f32 (k0_pay4 (F := Ideal) X W XS WS RES) bitsLt_bf16_f32)) broadcasts_S8x3072x1_S8x3072x2560)) (gamR G) := rfl

/-- The normalised rows. -/
theorem pay5_eq : k0_pay5 (F := Ideal) X W XS WS RES G = fun i => nRow (hAt X XS W WS RES (i 0) (i 1)) (gAt G) (i 2) := by
  rw [pay5_split, pay4_eq, gamR_eq, rmsR_eq, colR_eq]
  rfl

/-- The largest element of each row of an array. -/
theorem topR_eq (N : FVec Ideal S8x3072x2560 .f32) :
    (multiReduction .maximumf [2] S8x3072 N 0xFF800000#32 reduces_S8x3072x2560_S8x3072 (.inl rfl) rfl)
      = fun i => Finset.univ.fold max (Ideal.ofBits .f32 0xFF800000#32) (fun c : Fin 2560 => N (ix3 (i 0) (i 1) c)) := by
  funext i
  pointwise

/-- A column of rows. -/
theorem unitR_eq (N : FVec Ideal S8x3072 .f32) : shapeCast S8x3072x1 N shapeCasts_S8x3072_S8x3072x1 = fun i => N (ix2 (i 0) (i 1)) := by
  funext i
  pointwise

/-- The largest magnitude of each row of an array, over 448. -/
theorem maxR_eq (N : FVec Ideal S8x3072x2560 .f32) :
    mulf (shapeCast S8x3072x1 (multiReduction .maximumf [2] S8x3072 (absf N) 0xFF800000#32 reduces_S8x3072x2560_S8x3072 (.inl rfl) rfl) shapeCasts_S8x3072_S8x3072x1) (broadcast S8x3072x1 (Scalar.ofBits (F := Ideal) .f32 0x3B124925#32))
      = fun i => Finset.univ.fold max (Ideal.ofBits .f32 0xFF800000#32) (fun c : Fin 2560 => max (N (ix3 (i 0) (i 1) c)) (-N (ix3 (i 0) (i 1) c))) * Ideal.ofBits .f32 0x3B124925#32 := by
  rw [topR_eq, unitR_eq]
  rfl

/-- The largest magnitude of each normalised row, over 448. -/
theorem pay6_eq : k0_pay6 (F := Ideal) X W XS WS RES G = fun i => qRow (hAt X XS W WS RES (i 0) (i 1)) (gAt G) := by
  have e := maxR_eq (k0_pay5 (F := Ideal) X W XS WS RES G)
  refine Eq.trans (by rfl) (e.trans ?_)
  rw [pay5_eq]
  rfl

/-- The named constant is the natural logarithm of two. -/
theorem ln2_eq : (Named.named κ "ln2" 0x3F317218#32 : Ideal .f32) = ((Real.log 2 : ℝ) : EReal) :=
  IdealRules.named_const.ideal_named_scalar _ _ _ _ rfl

/-- The exponent of the scale from that number. -/
theorem pay1_eq (q : FVec Ideal S8x3072x1 .f32) :
    k0_pay1 (F := Ideal) (cmpf .olt q (broadcast S8x3072x1 (Scalar.ofBits .f32 0x00800000#32))) (log q) (broadcast S8x3072x1 (((Real.log 2 : ℝ) : EReal) : Ideal .f32)) = fun i => expOf (q i) := rfl

/-- The divisor of the logarithm. -/
theorem pay9_eq : k0_pay9 (F := Ideal) = broadcast S8x3072x1 (((Real.log 2 : ℝ) : EReal) : Ideal .f32) := by
  unfold k0_pay9
  rw [ln2_eq]

/-- The exponents of the rows. -/
theorem exp_eq : k0_pay1 (F := Ideal) (k0_pay7 X W XS WS RES G) (k0_pay8 X W XS WS RES G) k0_pay9 = fun i => expOf (qRow (hAt X XS W WS RES (i 0) (i 1)) (gAt G)) := by
  rw [pay9_eq, show k0_pay7 (F := Ideal) X W XS WS RES G = cmpf .olt (k0_pay6 (F := Ideal) X W XS WS RES G) (broadcast S8x3072x1 (Scalar.ofBits .f32 0x00800000#32)) from rfl,
    show k0_pay8 (F := Ideal) X W XS WS RES G = log (k0_pay6 (F := Ideal) X W XS WS RES G) from rfl, pay1_eq, pay6_eq]

/-- The scales. -/
theorem pay3_eq : k0_pay3 (F := Ideal) (k0_pay7 X W XS WS RES G) (k0_pay8 X W XS WS RES G) k0_pay9 = fun i => scaleRow (hAt X XS W WS RES (i 0) (i 1)) (gAt G) := by
  refine Eq.trans (b := exp2 (k0_pay1 (F := Ideal) (k0_pay7 X W XS WS RES G) (k0_pay8 X W XS WS RES G) k0_pay9)) rfl ?_
  rw [exp_eq]
  rfl

/-- The code words. -/
theorem pay2_eq : k0_pay2 (F := Ideal) (k0_pay5 X W XS WS RES G) (k0_pay7 X W XS WS RES G) (k0_pay8 X W XS WS RES G) k0_pay9
    = fun i => codeRow (hAt X XS W WS RES (i 0) (i 1)) (gAt G) (i 2) := by
  refine Eq.trans (b := truncf .fp8e4m3 (minimumf (broadcast S8x3072x2560 (Scalar.ofBits (F := Ideal) .f32 0x43E00000#32)) (maximumf (broadcast S8x3072x2560 (Scalar.ofBits .f32 0xC3E00000#32))
    (mulf (k0_pay5 (F := Ideal) X W XS WS RES G) (broadcastTo S8x3072x2560 (exp2 (subf (broadcast S8x3072x1 (Scalar.ofBits .f32 0x00000000#32)) (k0_pay1 (F := Ideal) (k0_pay7 X W XS WS RES G) (k0_pay8 X W XS WS RES G) k0_pay9))) broadcasts_S8x3072x1_S8x3072x2560)))) bitsLt_fp8e4m3_f32) rfl ?_
  rw [exp_eq, pay5_eq, colR_eq]
  rfl

end Cert.Proj.Ref
end
-- ==== Proof.Equation.lean ====
module
public import proofs.«01_k».proof.Defs
public import proofs.«01_k».proof.Proof.Bound
public import proofs.«01_k».proof.Proof.Run
public import proofs.«01_k».proof.Proof.Reference
public import proofs.«01_k».proof.Proof.Gen.ReferenceIdeal.Value
public import proofs.«01_k».proof.Proof.Gen.Pre_gamma_finite

/-! The kernel's three results are the reference's. -/

@[expose] public section
set_option maxRecDepth 16384
noncomputable section
namespace Cert.Proj
open Cert.KernelIdeal Idealize.ShloMosaic Idealize.ShloMosaic.TcCoe Idealize.SL.Sem

/-- A comparison that came out one holds. -/
theorem le_of_cmp (a b : EReal) (h : Ideal.cmp .ole a b = 1#1) : a ≤ b := by
  by_contra hn
  have : Ideal.cmp .ole a b = 0#1 := by simp [Ideal.cmp, hn]
  rw [this] at h
  exact absurd h (by decide)

/-- What the precondition says of gamma: every entry is at most the largest finite bfloat16 in magnitude. -/
theorem gamma_le (a0 : Vec Ideal S8x3072x5120 .fp8e4m3) (a1 : Vec Ideal S8x3072x1 .f32) (a2 : Vec Ideal S5120x2560 .fp8e4m3) (a3 : Vec Ideal S2560 .f32) (a4 : Vec Ideal S8x3072x2560 .bf16) (a5 : Vec Ideal S2560 .bf16)
    (h : (@Cert.Pre_gamma_finite.fn Cert.Pre_gamma_finite.Gen.facts Ideal _ a0 a1 a2 a3 a4 a5) = fun _ => 1#1) (n : Fin 2560) :
    max (gAt a5 n) (-gAt a5 n) ≤ Ideal.ofBits .f32 0x7F7F0000#32 :=
  le_of_cmp _ _ (congrFun h (ix1 n))

/-- With a bounded gamma the kernel's code words are the reference's. -/
theorem kCode_eq (h g : Fin 2560 → EReal) (hg : ∀ c, max (g c) (-g c) ≤ Ideal.ofBits .f32 0x7F7F0000#32) (c : Fin 2560) : kCode h g c = codeRow h g c := by
  unfold kCode codeRow
  rw [kInv_qRow h g hg]

variable (a0 : Vec Ideal S8x3072x5120 .fp8e4m3) (a1 : Vec Ideal S8x3072x1 .f32) (a2 : Vec Ideal S5120x2560 .fp8e4m3) (a3 : Vec Ideal S2560 .f32) (a4 : Vec Ideal S8x3072x2560 .bf16) (a5 : Vec Ideal S2560 .bf16)

/-- The two programs read a row from the same argument elements. -/
theorem hAt_same (b : Fin 8) (s : Fin 3072) : Ref.hAt a0 a1 a2 a3 a4 b s = hAt a0 a1 a2 a3 a4 b s := rfl

/-- And gamma from the same argument. -/
theorem gAt_same : Ref.gAt a5 = gAt a5 := rfl

section
open Cert.ReferenceIdeal.Gen Cert.ReferenceIdeal.Value

/-- The reference reads each whole argument, so its second result is the code words of the arguments. -/
theorem G7_eq : Cert.ReferenceIdeal.Value.G7 (F := Ideal) a0 a1 a2 a3 a4 a5
    = k0_pay2 (F := Ideal) (k0_pay5 a0 a2 a1 a3 a4 a5) (k0_pay7 a0 a2 a1 a3 a4 a5) (k0_pay8 a0 a2 a1 a3 a4 a5) k0_pay9 := by
  unfold Cert.ReferenceIdeal.Value.G7 k0_pay10 k0_pay11 k0_pay12
  rw [View.ld_unit_zero (S := S8x3072x5120) hz0 _ a0, View.ld_unit_zero (S := S5120x2560) hz2 _ a2, View.ld_unit_zero (S := S8x3072x1) hz1 _ a1, View.ld_unit_zero (S := S2560) hz3 _ a3, View.ld_unit_zero (S := S8x3072x2560) hz4 _ a4, View.ld_unit_zero (S := S2560) hz5 _ a5]

/-- And its third result the scales of the arguments. -/
theorem G8_eq : Cert.ReferenceIdeal.Value.G8 (F := Ideal) a0 a1 a2 a3 a4 a5
    = k0_pay3 (F := Ideal) (k0_pay7 a0 a2 a1 a3 a4 a5) (k0_pay8 a0 a2 a1 a3 a4 a5) k0_pay9 := by
  unfold Cert.ReferenceIdeal.Value.G8 k0_pay10 k0_pay11 k0_pay12
  rw [View.ld_unit_zero (S := S8x3072x5120) hz0 _ a0, View.ld_unit_zero (S := S5120x2560) hz2 _ a2, View.ld_unit_zero (S := S8x3072x1) hz1 _ a1, View.ld_unit_zero (S := S2560) hz3 _ a3, View.ld_unit_zero (S := S8x3072x2560) hz4 _ a4, View.ld_unit_zero (S := S2560) hz5 _ a5]

end

/-- The first result. -/
theorem first : (fun i => hAt a0 a1 a2 a3 a4 (i 0) (i 1) (i 2) : S8x3072x2560.Idx → EReal) = Cert.ReferenceIdeal.Value.G6 (F := Ideal) a0 a1 a2 a3 a4 a5 :=
  (Ref.pay4_eq a0 a1 a2 a3 a4).symm

/-- The second result. -/
theorem second (hg : ∀ n, max (gAt a5 n) (-gAt a5 n) ≤ Ideal.ofBits .f32 0x7F7F0000#32) :
    (fun i => kCode (hAt a0 a1 a2 a3 a4 (i 0) (i 1)) (gAt a5) (i 2) : S8x3072x2560.Idx → EReal) = Cert.ReferenceIdeal.Value.G7 (F := Ideal) a0 a1 a2 a3 a4 a5 := by
  refine Eq.trans ?_ ((G7_eq a0 a1 a2 a3 a4 a5).trans (Ref.pay2_eq a0 a1 a2 a3 a4 a5)).symm
  funext i
  exact kCode_eq _ _ hg _

/-- The third result. -/
theorem third (hg : ∀ n, max (gAt a5 n) (-gAt a5 n) ≤ Ideal.ofBits .f32 0x7F7F0000#32) :
    (fun i => kScale (qRow (hAt a0 a1 a2 a3 a4 (i 0) (i 1)) (gAt a5)) : S8x3072x1.Idx → EReal) = Cert.ReferenceIdeal.Value.G8 (F := Ideal) a0 a1 a2 a3 a4 a5 := by
  refine Eq.trans ?_ ((G8_eq a0 a1 a2 a3 a4 a5).trans (Ref.pay3_eq a0 a1 a2 a3 a4 a5)).symm
  funext i
  exact kScale_qRow _ _ hg

/-- The algebraic claim: from memories that agree on the arguments, with a bounded gamma, both programs end with the same three results. -/
theorem algebraic : algebraic_KernelIdeal_ReferenceIdeal_pre_gamma_finite (hKernelIdeal := Cert.KernelIdeal.Gen.facts) (hReferenceIdeal := Cert.ReferenceIdeal.Gen.facts)
    (hPre_gamma_finite := Cert.Pre_gamma_finite.Gen.facts) := by
  intro m g m' g' hpre hagree
  refine ⟨fun c => res0 m c, fun c => res1 m c, fun c => res2 m c, run m g, ?_⟩
  refine (θ_run _ _ _).mono (fun r h c => ?_) (Cert.ReferenceIdeal.Value.run m' g')
  obtain ⟨h0, h1, h2, hargs⟩ := h c
  obtain ⟨e0, e1, e2, e3, e4, e5⟩ := hagree c
  have hg := gamma_le _ _ _ _ _ _ (hpre c)
  refine ⟨h0.trans ?_, h1.trans ?_, h2.trans ?_, hargs⟩
  · erw [e0, e1, e2, e3, e4, e5]
    exact (first _ _ _ _ _ _).symm
  · erw [e0, e1, e2, e3, e4, e5]
    exact (second _ _ _ _ _ _ hg).symm
  · erw [e0, e1, e2, e3, e4, e5]
    exact (third _ _ _ _ _ _ hg).symm

end Cert.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_gamma_finite
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate: the frames, the two named constants, and the equation of the three results. -/
theorem claim : Cert.Claim := ⟨Cert.Kernel.Gen.facts, Cert.KernelIdeal.Gen.facts, Cert.ReferenceIdeal.Gen.facts, Cert.Reference.Gen.facts, Cert.Pre_gamma_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  fun m ρ _ => Cert.Reference.Gen.frame m ρ,
  IdealRules.named_const.statement Cert.KernelIdeal.κ "inv_n" .f32 0x39CCCCCD#32 ((1 / 2560 : ℝ) : EReal) rfl,
  IdealRules.named_const.statement Cert.ReferenceIdeal.κ "ln2" .f32 0x3F317218#32 ((Real.log 2 : ℝ) : EReal) rfl,
  Cert.Proj.algebraic⟩

end Cert.Proof

end
